-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x3x160 : Shape := ⟨4, ![4, 256, 3, 160]⟩
abbrev S4x256x3 : Shape := ⟨3, ![4, 256, 3]⟩
abbrev S4x16x3x160 : Shape := ⟨4, ![4, 16, 3, 160]⟩
abbrev S4x16x3 : Shape := ⟨3, ![4, 16, 3]⟩
abbrev S32x160 : Shape := ⟨2, ![32, 160]⟩
abbrev S32x160x6144 : Shape := ⟨3, ![32, 160, 6144]⟩
abbrev S6144 : Shape := ⟨1, ![6144]⟩
abbrev S6144x160 : Shape := ⟨2, ![6144, 160]⟩
abbrev S160 : Shape := ⟨1, ![160]⟩
abbrev S4x3x160x256 : Shape := ⟨4, ![4, 3, 160, 256]⟩
abbrev S3x4x256 : Shape := ⟨3, ![3, 4, 256]⟩
abbrev S4x3x16x160 : Shape := ⟨4, ![4, 3, 16, 160]⟩
abbrev S3x4x16 : Shape := ⟨3, ![3, 4, 16]⟩
abbrev S1x6144 : Shape := ⟨2, ![1, 6144]⟩
abbrev S160x6144 : Shape := ⟨2, ![160, 6144]⟩
abbrev S1x160 : Shape := ⟨2, ![1, 160]⟩
abbrev S4x3x16x6144 : Shape := ⟨4, ![4, 3, 16, 6144]⟩
abbrev S32x160x512 : Shape := ⟨3, ![32, 160, 512]⟩
abbrev S1x512 : Shape := ⟨2, ![1, 512]⟩
abbrev S192x5120 : Shape := ⟨2, ![192, 5120]⟩
abbrev S272x128 : Shape := ⟨2, ![272, 128]⟩
abbrev S12x192x512 : Shape := ⟨3, ![12, 192, 512]⟩
abbrev S1x1x160x256 : Shape := ⟨4, ![1, 1, 160, 256]⟩
abbrev S160x256 : Shape := ⟨2, ![160, 256]⟩
abbrev S1x1x256 : Shape := ⟨3, ![1, 1, 256]⟩
abbrev S1x256 : Shape := ⟨2, ![1, 256]⟩
abbrev S256x160 : Shape := ⟨2, ![256, 160]⟩
abbrev S1x1x16x160 : Shape := ⟨4, ![1, 1, 16, 160]⟩
abbrev S16x160 : Shape := ⟨2, ![16, 160]⟩
abbrev S1x1x16 : Shape := ⟨3, ![1, 1, 16]⟩
abbrev S1x16 : Shape := ⟨2, ![1, 16]⟩
abbrev S16x16 : Shape := ⟨2, ![16, 16]⟩
abbrev S16 : Shape := ⟨1, ![16]⟩
abbrev S16x1 : Shape := ⟨2, ![16, 1]⟩
abbrev S16x128 : Shape := ⟨2, ![16, 128]⟩
abbrev S256x128 : Shape := ⟨2, ![256, 128]⟩
abbrev S16x32 : Shape := ⟨2, ![16, 32]⟩
abbrev S256x32 : Shape := ⟨2, ![256, 32]⟩
abbrev S1x128 : Shape := ⟨2, ![1, 128]⟩
abbrev S1x32 : Shape := ⟨2, ![1, 32]⟩
abbrev S1x128x512 : Shape := ⟨3, ![1, 128, 512]⟩
abbrev S128x512 : Shape := ⟨2, ![128, 512]⟩
abbrev S1x32x512 : Shape := ⟨3, ![1, 32, 512]⟩
abbrev S32x512 : Shape := ⟨2, ![32, 512]⟩
abbrev S5120x512 : Shape := ⟨2, ![5120, 512]⟩
abbrev S192x512 : Shape := ⟨2, ![192, 512]⟩
abbrev S1x192x512 : Shape := ⟨3, ![1, 192, 512]⟩
abbrev S192 : Shape := ⟨1, ![192]⟩
abbrev S192x1 : Shape := ⟨2, ![192, 1]⟩
abbrev S192x128 : Shape := ⟨2, ![192, 128]⟩
abbrev S192x160 : Shape := ⟨2, ![192, 160]⟩
abbrev S4x3x16x512 : Shape := ⟨4, ![4, 3, 16, 512]⟩
abbrev S160x512 : Shape := ⟨2, ![160, 512]⟩
abbrev S4x16x3x6144 : Shape := ⟨4, ![4, 16, 3, 6144]⟩

abbrev nBuf : Space → Nat
  | .hbm => 28
  | .vmem => 22
  | .smem => 0
  | _ => 0

abbrev bufTy : (tb : Table) → Fin (tcTables nBuf tb) → BufTy
  | .hbm, ⟨0, _⟩ => ⟨S4x256x3x160, .fp8e4m3⟩
  | .hbm, ⟨1, _⟩ => ⟨S4x256x3, .f32⟩
  | .hbm, ⟨2, _⟩ => ⟨S4x16x3x160, .fp8e4m3⟩
  | .hbm, ⟨3, _⟩ => ⟨S4x16x3, .f32⟩
  | .hbm, ⟨4, _⟩ => ⟨S32x160, .f32⟩
  | .hbm, ⟨5, _⟩ => ⟨S32x160x6144, .fp8e4m3⟩
  | .hbm, ⟨6, _⟩ => ⟨S6144, .f32⟩
  | .hbm, ⟨7, _⟩ => ⟨S6144, .f32⟩
  | .hbm, ⟨8, _⟩ => ⟨S6144x160, .fp8e4m3⟩
  | .hbm, ⟨9, _⟩ => ⟨S160, .f32⟩
  | .hbm, ⟨10, _⟩ => ⟨S160, .f32⟩
  | .hbm, ⟨11, _⟩ => ⟨S4x3x160x256, .fp8e4m3⟩
  | .hbm, ⟨12, _⟩ => ⟨S3x4x256, .f32⟩
  | .hbm, ⟨13, _⟩ => ⟨S4x3x16x160, .fp8e4m3⟩
  | .hbm, ⟨14, _⟩ => ⟨S3x4x16, .f32⟩
  | .hbm, ⟨15, _⟩ => ⟨S1x6144, .f32⟩
  | .hbm, ⟨16, _⟩ => ⟨S1x6144, .f32⟩
  | .hbm, ⟨17, _⟩ => ⟨S160x6144, .fp8e4m3⟩
  | .hbm, ⟨18, _⟩ => ⟨S1x160, .f32⟩
  | .hbm, ⟨19, _⟩ => ⟨S1x160, .f32⟩
  | .hbm, ⟨20, _⟩ => ⟨S4x3x16x160, .fp8e4m3⟩
  | .hbm, ⟨21, _⟩ => ⟨S3x4x16, .f32⟩
  | .hbm, ⟨22, _⟩ => ⟨S4x3x16x6144, .fp8e4m3⟩
  | .hbm, ⟨23, _⟩ => ⟨S3x4x16, .f32⟩
  | .hbm, ⟨24, _⟩ => ⟨S4x16x3x160, .fp8e4m3⟩
  | .hbm, ⟨25, _⟩ => ⟨S4x16x3, .f32⟩
  | .hbm, ⟨26, _⟩ => ⟨S4x16x3x6144, .fp8e4m3⟩
  | .hbm, ⟨27, _⟩ => ⟨S4x16x3, .f32⟩
  | .local _ .vmem, ⟨0, _⟩ => ⟨S4x3x160x256, .fp8e4m3⟩
  | .local _ .vmem, ⟨1, _⟩ => ⟨S3x4x256, .f32⟩
  | .local _ .vmem, ⟨2, _⟩ => ⟨S4x3x16x160, .fp8e4m3⟩
  | .local _ .vmem, ⟨3, _⟩ => ⟨S3x4x16, .f32⟩
  | .local _ .vmem, ⟨4, _⟩ => ⟨S32x160, .f32⟩
  | .local _ .vmem, ⟨5, _⟩ => ⟨S32x160x512, .fp8e4m3⟩
  | .local _ .vmem, ⟨6, _⟩ => ⟨S32x160x512, .fp8e4m3⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S160x6144, .fp8e4m3⟩
  | .local _ .vmem, ⟨12, _⟩ => ⟨S1x160, .f32⟩
  | .local _ .vmem, ⟨13, _⟩ => ⟨S1x160, .f32⟩
  | .local _ .vmem, ⟨14, _⟩ => ⟨S4x3x16x160, .fp8e4m3⟩
  | .local _ .vmem, ⟨15, _⟩ => ⟨S3x4x16, .f32⟩
  | .local _ .vmem, ⟨16, _⟩ => ⟨S4x3x16x6144, .fp8e4m3⟩
  | .local _ .vmem, ⟨17, _⟩ => ⟨S3x4x16, .f32⟩
  | .local _ .vmem, ⟨18, _⟩ => ⟨S192x5120, .bf16⟩
  | .local _ .vmem, ⟨19, _⟩ => ⟨S272x128, .f32⟩
  | .local _ .vmem, ⟨20, _⟩ => ⟨S272x128, .f32⟩
  | .local _ .vmem, ⟨21, _⟩ => ⟨S12x192x512, .f32⟩
  | _, _ => ⟨S4x256x3x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![12], ![false]⟩

def k0_off1 (i : grid0.Coords) : Fin 3 → Nat :=
  let arg0 : BitVec 32 := BitVec.ofNat 32 (i 0).val
  let v150 : Index := Scalar.indexCast arg0
  let c0_169 : Index := 0#32
  let c0_170 : Index := 0#32
  ![v150.toNat, 0, 0]
def k0_cond2 (i : grid0.Coords) : BitVec 1 :=
  let arg0 : BitVec 32 := BitVec.ofNat 32 (i 0).val
  let c11_i32 : BitVec 32 := 11#32
  let v154 : BitVec 1 := Scalar.cmpi .eq arg0 c11_i32
  let v155 : BitVec 32 := Scalar.extui v154
  let c0_i32_171 : BitVec 32 := 0#32
  let v156 : BitVec 1 := Scalar.cmpi .ne v155 c0_i32_171
  v156

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x3x160x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3x16x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x160x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S160x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x160 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x3x16x160 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x4x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x3x16x6144 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x4x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4x256x3x160 : Shape := ⟨4, ![4, 256, 3, 160]⟩
abbrev S4x256x3 : Shape := ⟨3, ![4, 256, 3]⟩
abbrev S4x16x3x160 : Shape := ⟨4, ![4, 16, 3, 160]⟩
abbrev S4x16x3 : Shape := ⟨3, ![4, 16, 3]⟩
abbrev S32x160 : Shape := ⟨2, ![32, 160]⟩
abbrev S32x160x6144 : Shape := ⟨3, ![32, 160, 6144]⟩
abbrev S6144 : Shape := ⟨1, ![6144]⟩
abbrev S6144x160 : Shape := ⟨2, ![6144, 160]⟩
abbrev S160 : Shape := ⟨1, ![160]⟩
abbrev S4x16x3x6144 : Shape := ⟨4, ![4, 16, 3, 6144]⟩
abbrev S4x256x3x1 : Shape := ⟨4, ![4, 256, 3, 1]⟩
abbrev S4x16x3x1 : Shape := ⟨4, ![4, 16, 3, 1]⟩
abbrev S4x16x16x3x160 : Shape := ⟨5, ![4, 16, 16, 3, 160]⟩
abbrev S4x1x16x3x160 : Shape := ⟨5, ![4, 1, 16, 3, 160]⟩
abbrev S4x15x16x3x160 : Shape := ⟨5, ![4, 15, 16, 3, 160]⟩
abbrev S4x16x32x3x160 : Shape := ⟨5, ![4, 16, 32, 3, 160]⟩
abbrev S32x1x160 : Shape := ⟨3, ![32, 1, 160]⟩
abbrev S1x1x32x1x160 : Shape := ⟨5, ![1, 1, 32, 1, 160]⟩
abbrev S4x16x3x32x160 : Shape := ⟨5, ![4, 16, 3, 32, 160]⟩
abbrev S192x5120 : Shape := ⟨2, ![192, 5120]⟩
abbrev S5120x6144 : Shape := ⟨2, ![5120, 6144]⟩
abbrev S192x6144 : Shape := ⟨2, ![192, 6144]⟩
abbrev S1x6144 : Shape := ⟨2, ![1, 6144]⟩
abbrev S192 : Shape := ⟨1, ![192]⟩
abbrev S192x1 : Shape := ⟨2, ![192, 1]⟩
abbrev S1x246 : Shape := ⟨2, ![1, 246]⟩
abbrev S192x246 : Shape := ⟨2, ![192, 246]⟩
abbrev S192x160 : Shape := ⟨2, ![192, 160]⟩
abbrev S1x160 : Shape := ⟨2, ![1, 160]⟩

abbrev nBuf : Space → Nat
  | .hbm => 15
  | .vmem => 15
  | .smem => 0
  | _ => 0

abbrev bufTy : (tb : Table) → Fin (tcTables nBuf tb) → BufTy
  | .hbm, ⟨0, _⟩ => ⟨S4x256x3x160, .fp8e4m3⟩
  | .hbm, ⟨1, _⟩ => ⟨S4x256x3, .f32⟩
  | .hbm, ⟨2, _⟩ => ⟨S4x16x3x160, .fp8e4m3⟩
  | .hbm, ⟨3, _⟩ => ⟨S4x16x3, .f32⟩
  | .hbm, ⟨4, _⟩ => ⟨S32x160, .f32⟩
  | .hbm, ⟨5, _⟩ => ⟨S32x160x6144, .fp8e4m3⟩
  | .hbm, ⟨6, _⟩ => ⟨S6144, .f32⟩
  | .hbm, ⟨7, _⟩ => ⟨S6144, .f32⟩
  | .hbm, ⟨8, _⟩ => ⟨S6144x160, .fp8e4m3⟩
  | .hbm, ⟨9, _⟩ => ⟨S160, .f32⟩
  | .hbm, ⟨10, _⟩ => ⟨S160, .f32⟩
  | .hbm, ⟨11, _⟩ => ⟨S4x16x3x160, .fp8e4m3⟩
  | .hbm, ⟨12, _⟩ => ⟨S4x16x3, .f32⟩
  | .hbm, ⟨13, _⟩ => ⟨S4x16x3x6144, .fp8e4m3⟩
  | .hbm, ⟨14, _⟩ => ⟨S4x16x3, .f32⟩
  | .local _ .vmem, ⟨0, _⟩ => ⟨S4x256x3x160, .fp8e4m3⟩
  | .local _ .vmem, ⟨1, _⟩ => ⟨S4x256x3, .f32⟩
  | .local _ .vmem, ⟨2, _⟩ => ⟨S4x16x3x160, .fp8e4m3⟩
  | .local _ .vmem, ⟨3, _⟩ => ⟨S4x16x3, .f32⟩
  | .local _ .vmem, ⟨4, _⟩ => ⟨S32x160, .f32⟩
  | .local _ .vmem, ⟨5, _⟩ => ⟨S32x160x6144, .fp8e4m3⟩
  | .local _ .vmem, ⟨6, _⟩ => ⟨S6144, .f32⟩
  | .local _ .vmem, ⟨7, _⟩ => ⟨S6144, .f32⟩
  | .local _ .vmem, ⟨8, _⟩ => ⟨S6144x160, .fp8e4m3⟩
  | .local _ .vmem, ⟨9, _⟩ => ⟨S160, .f32⟩
  | .local _ .vmem, ⟨10, _⟩ => ⟨S160, .f32⟩
  | .local _ .vmem, ⟨11, _⟩ => ⟨S4x16x3x160, .fp8e4m3⟩
  | .local _ .vmem, ⟨12, _⟩ => ⟨S4x16x3, .f32⟩
  | .local _ .vmem, ⟨13, _⟩ => ⟨S4x16x3x6144, .fp8e4m3⟩
  | .local _ .vmem, ⟨14, _⟩ => ⟨S4x16x3, .f32⟩
  | _, _ => ⟨S4x256x3x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S4x256x3x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x3x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x160x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x160 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x16x3x160 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x16x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x16x3x6144 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x16x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelFrame.lean ====
/- The frame of the kernel program, by hand: at any float semantics every run of @main ends, with the argument arrays as launched
   and every semaphore counter at zero. What the kernel leaves in its outputs and its scratch is not named here, so the invariant
   between two grid points is the frame kit's own: each scratch buffer owned at some contents. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The buffers the lines after the region WRITE, as references: results computed from contents the run does not name
    (an operand the body wrote by its own DMA, or a forgotten output), so nothing is stated of them either. -/
def T0 : Finset (Ref sig .tc) := {main_v10, main_v11, main_v12, main_v13}
/-- The lines after the region write only buffers of their own. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame claim's post from a run of `FramePostR`: the argument arrays end as launched. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      (Pipeline.RDat.FramePostR.arr_in h c 5 rfl).trans ((hA c 5).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x3x160x256 .fp8e4m3 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S3x4x256 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S4x3x16x160 .fp8e4m3 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S3x4x16 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S32x160 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S32x160x512 .fp8e4m3 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x512 .f32 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x512 .f32 := win0_7.stage (cfg0.slots t 7)
/-- Window 7's staging buffer is whole. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S160x6144 .fp8e4m3 := win0_8.stage (cfg0.slots t 8)
/-- Window 8's staging buffer is whole. -/
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S1x160 .f32 := win0_9.stage (cfg0.slots t 9)
/-- Window 9's staging buffer is whole. -/
abbrev hs0_9 (t : Fin cfg0.N) : (ms0_9 t).IsWhole := hstage0_9 ((cfg0.slots t 9).cast nbuf0_9)
/-- Window 10's staging buffer at a point. -/
abbrev ms0_10 (t : Fin cfg0.N) : Memref sig .tc .vmem S1x160 .f32 := win0_10.stage (cfg0.slots t 10)
/-- Window 10's staging buffer is whole. -/
abbrev hs0_10 (t : Fin cfg0.N) : (ms0_10 t).IsWhole := hstage0_10 ((cfg0.slots t 10).cast nbuf0_10)
/-- Window 11's staging buffer at a point. -/
abbrev ms0_11 (t : Fin cfg0.N) : Memref sig .tc .vmem S4x3x16x160 .fp8e4m3 := win0_11.stage (cfg0.slots t 11)
/-- Window 11's staging buffer is whole. -/
abbrev hs0_11 (t : Fin cfg0.N) : (ms0_11 t).IsWhole := hstage0_11 ((cfg0.slots t 11).cast nbuf0_11)
/-- Window 12's staging buffer at a point. -/
abbrev ms0_12 (t : Fin cfg0.N) : Memref sig .tc .vmem S3x4x16 .f32 := win0_12.stage (cfg0.slots t 12)
/-- Window 12's staging buffer is whole. -/
abbrev hs0_12 (t : Fin cfg0.N) : (ms0_12 t).IsWhole := hstage0_12 ((cfg0.slots t 12).cast nbuf0_12)
/-- Window 13's staging buffer at a point. -/
abbrev ms0_13 (t : Fin cfg0.N) : Memref sig .tc .vmem S4x3x16x6144 .fp8e4m3 := win0_13.stage (cfg0.slots t 13)
/-- Window 13's staging buffer is whole. -/
abbrev hs0_13 (t : Fin cfg0.N) : (ms0_13 t).IsWhole := hstage0_13 ((cfg0.slots t 13).cast nbuf0_13)
/-- Window 14's staging buffer at a point. -/
abbrev ms0_14 (t : Fin cfg0.N) : Memref sig .tc .vmem S3x4x16 .f32 := win0_14.stage (cfg0.slots t 14)
/-- Window 14's staging buffer is whole. -/
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S192x5120 .bf16 := Memref.whole cc0_scratch0
/-- Scratch buffer 1. -/
abbrev scM0_1 : Memref sig .tc .vmem S272x128 .f32 := Memref.whole cc0_scratch1
/-- Scratch buffer 2. -/
abbrev scM0_2 : Memref sig .tc .vmem S272x128 .f32 := Memref.whole cc0_scratch2
/-- Scratch buffer 3. -/
abbrev scM0_3 : Memref sig .tc .vmem S12x192x512 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body -/

set_option maxHeartbeats 40000000 in
/-- The body at any point, on whole staging memrefs: the inputs keep their contents, each output and each scratch buffer
    ends at some contents. The three reachable combinations of its two conditions are run one by one. -/
theorem body_any (c : Dev nD) (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole)
    (hc : (cond0_0 i ∧ ¬cond0_1 i) ∨ (¬cond0_0 i ∧ ¬cond0_1 i) ∨ (¬cond0_0 i ∧ cond0_1 i))
    (x0 : Vec F S4x3x160x256 .fp8e4m3) (x1 : Vec F S3x4x256 .f32) (x2 : Vec F S4x3x16x160 .fp8e4m3) (x3 : Vec F S3x4x16 .f32) (x4 : Vec F S32x160 .f32) (x5 : Vec F S32x160x512 .fp8e4m3) (x6 : Vec F S1x512 .f32) (x7 : Vec F S1x512 .f32) (x8 : Vec F S160x6144 .fp8e4m3) (x9 : Vec F S1x160 .f32) (x10 : Vec F S1x160 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_nsa_compress_eq_skeleton]; unfold cc0_nsa_compress_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  rcases hc with ⟨hc0, hc1⟩ | ⟨hc0, hc1⟩ | ⟨hc0, hc1⟩
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-! ## The pipeline's proof data -/

/-- The output windows this certificate FORGETS (11, 12, 13, 14): nothing reads what the kernel leaves in them, so nothing
    of it is named (Lib/Pipeline/Dat.lean `Dat.toRForget`). -/
def forgets0 : Fin 15 → Bool := fun w => w.val == 11 || w.val == 12 || w.val == 13 || w.val == 14

/-- The proof data of the one pipeline on core `c`: the arrays as the region finds them (`V`); after the body at
    point `t` each input's buffer at its block and the outputs, FORGOTTEN, at `Dat.unnamed`; the invariant the kit's `ΦA` throughout;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = iblk m c 8 t := by dsimp only [dats]
/-- What window 9 holds after a point. -/
theorem after0_9 (c : Dev nD) (t : Fin cfg0.N) : (dats m 0 c).after 9 t = iblk m c 9 t := by dsimp only [dats]
/-- What window 10 holds after a point. -/
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What window 7 holds before a point. -/
theorem before0_7 (c : Dev nD) (t : Fin cfg0.N) (d) : (dats m 0 c).before 7 t d = iblk m c 7 t :=
  before0_7_of m (dats m 0 c) (A_eq m c 7) (after0_7 m c) t d
/-- What window 8 holds before a point. -/
theorem before0_8 (c : Dev nD) (t : Fin cfg0.N) (d) : (dats m 0 c).before 8 t d = iblk m c 8 t :=
  before0_8_of m (dats m 0 c) (A_eq m c 8) (after0_8 m c) t d
/-- What window 9 holds before a point. -/
theorem before0_9 (c : Dev nD) (t : Fin cfg0.N) (d) : (dats m 0 c).before 9 t d = iblk m c 9 t :=
  before0_9_of m (dats m 0 c) (A_eq m c 9) (after0_9 m c) t d
/-- What window 10 holds before a point. -/
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 19200000 in
/-- The body at any point of the grid: its two conditions in closed form say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 12 := lt_of_lt_of_eq t.isLt (show cfg0.N = 12 from N_0)
  have hc : (cond0_0 (grid0.coords t) ∧ ¬cond0_1 (grid0.coords t)) ∨ (¬cond0_0 (grid0.coords t) ∧ ¬cond0_1 (grid0.coords t))
      ∨ (¬cond0_0 (grid0.coords t) ∧ cond0_1 (grid0.coords t)) := by
    rw [hcond0_0 t, hcond0_1 t]; omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_any c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => Entails.refl _) (hout := fun _ => Entails.refl _)

/-- At the compiled mesh, for any values, from any memory with zero counters: every weakly fair execution of @main on the
    TensorCores terminates, and every final state has every INPUT array of the pipeline unchanged, nothing stated of the
    FORGOTTEN outputs (windows 11, 12, 13, 14) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forget m ρ (fun c => (dats m 0 c).toRForget forgets0) (A_eq m) (run_main m ρ)

/-- THE FRAME: `Cert.quiescent_Kernel`'s statement (Defs.lean) at any `F` — Proof.lean cites it at `Bits`:
    `Cert.Proof.claim`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelFrame

end
-- ==== Proof.KernelIdealFrame.lean ====
/- The frame of the kernel program, by hand: at any float semantics every run of @main ends, with the argument arrays as launched
   and every semaphore counter at zero. What the kernel leaves in its outputs and its scratch is not named here, so the invariant
   between two grid points is the frame kit's own: each scratch buffer owned at some contents. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The buffers the lines after the region WRITE, as references: results computed from contents the run does not name
    (an operand the body wrote by its own DMA, or a forgotten output), so nothing is stated of them either. -/
def T0 : Finset (Ref sig .tc) := {main_v10, main_v11, main_v12, main_v13}
/-- The lines after the region write only buffers of their own. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame claim's post from a run of `FramePostR`: the argument arrays end as launched. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      (Pipeline.RDat.FramePostR.arr_in h c 5 rfl).trans ((hA c 5).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x3x160x256 .fp8e4m3 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S3x4x256 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S4x3x16x160 .fp8e4m3 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S3x4x16 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S32x160 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S32x160x512 .fp8e4m3 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x512 .f32 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x512 .f32 := win0_7.stage (cfg0.slots t 7)
/-- Window 7's staging buffer is whole. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S160x6144 .fp8e4m3 := win0_8.stage (cfg0.slots t 8)
/-- Window 8's staging buffer is whole. -/
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S1x160 .f32 := win0_9.stage (cfg0.slots t 9)
/-- Window 9's staging buffer is whole. -/
abbrev hs0_9 (t : Fin cfg0.N) : (ms0_9 t).IsWhole := hstage0_9 ((cfg0.slots t 9).cast nbuf0_9)
/-- Window 10's staging buffer at a point. -/
abbrev ms0_10 (t : Fin cfg0.N) : Memref sig .tc .vmem S1x160 .f32 := win0_10.stage (cfg0.slots t 10)
/-- Window 10's staging buffer is whole. -/
abbrev hs0_10 (t : Fin cfg0.N) : (ms0_10 t).IsWhole := hstage0_10 ((cfg0.slots t 10).cast nbuf0_10)
/-- Window 11's staging buffer at a point. -/
abbrev ms0_11 (t : Fin cfg0.N) : Memref sig .tc .vmem S4x3x16x160 .fp8e4m3 := win0_11.stage (cfg0.slots t 11)
/-- Window 11's staging buffer is whole. -/
abbrev hs0_11 (t : Fin cfg0.N) : (ms0_11 t).IsWhole := hstage0_11 ((cfg0.slots t 11).cast nbuf0_11)
/-- Window 12's staging buffer at a point. -/
abbrev ms0_12 (t : Fin cfg0.N) : Memref sig .tc .vmem S3x4x16 .f32 := win0_12.stage (cfg0.slots t 12)
/-- Window 12's staging buffer is whole. -/
abbrev hs0_12 (t : Fin cfg0.N) : (ms0_12 t).IsWhole := hstage0_12 ((cfg0.slots t 12).cast nbuf0_12)
/-- Window 13's staging buffer at a point. -/
abbrev ms0_13 (t : Fin cfg0.N) : Memref sig .tc .vmem S4x3x16x6144 .fp8e4m3 := win0_13.stage (cfg0.slots t 13)
/-- Window 13's staging buffer is whole. -/
abbrev hs0_13 (t : Fin cfg0.N) : (ms0_13 t).IsWhole := hstage0_13 ((cfg0.slots t 13).cast nbuf0_13)
/-- Window 14's staging buffer at a point. -/
abbrev ms0_14 (t : Fin cfg0.N) : Memref sig .tc .vmem S3x4x16 .f32 := win0_14.stage (cfg0.slots t 14)
/-- Window 14's staging buffer is whole. -/
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S192x5120 .bf16 := Memref.whole cc0_scratch0
/-- Scratch buffer 1. -/
abbrev scM0_1 : Memref sig .tc .vmem S272x128 .f32 := Memref.whole cc0_scratch1
/-- Scratch buffer 2. -/
abbrev scM0_2 : Memref sig .tc .vmem S272x128 .f32 := Memref.whole cc0_scratch2
/-- Scratch buffer 3. -/
abbrev scM0_3 : Memref sig .tc .vmem S12x192x512 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body -/

set_option maxHeartbeats 40000000 in
/-- The body at any point, on whole staging memrefs: the inputs keep their contents, each output and each scratch buffer
    ends at some contents. The three reachable combinations of its two conditions are run one by one. -/
theorem body_any (c : Dev nD) (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole)
    (hc : (cond0_0 i ∧ ¬cond0_1 i) ∨ (¬cond0_0 i ∧ ¬cond0_1 i) ∨ (¬cond0_0 i ∧ cond0_1 i))
    (x0 : Vec F S4x3x160x256 .fp8e4m3) (x1 : Vec F S3x4x256 .f32) (x2 : Vec F S4x3x16x160 .fp8e4m3) (x3 : Vec F S3x4x16 .f32) (x4 : Vec F S32x160 .f32) (x5 : Vec F S32x160x512 .fp8e4m3) (x6 : Vec F S1x512 .f32) (x7 : Vec F S1x512 .f32) (x8 : Vec F S160x6144 .fp8e4m3) (x9 : Vec F S1x160 .f32) (x10 : Vec F S1x160 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_nsa_compress_eq_skeleton]; unfold cc0_nsa_compress_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  rcases hc with ⟨hc0, hc1⟩ | ⟨hc0, hc1⟩ | ⟨hc0, hc1⟩
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-! ## The pipeline's proof data -/

/-- The output windows this certificate FORGETS (11, 12, 13, 14): nothing reads what the kernel leaves in them, so nothing
    of it is named (Lib/Pipeline/Dat.lean `Dat.toRForget`). -/
def forgets0 : Fin 15 → Bool := fun w => w.val == 11 || w.val == 12 || w.val == 13 || w.val == 14

/-- The proof data of the one pipeline on core `c`: the arrays as the region finds them (`V`); after the body at
    point `t` each input's buffer at its block and the outputs, FORGOTTEN, at `Dat.unnamed`; the invariant the kit's `ΦA` throughout;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = iblk m c 8 t := by dsimp only [dats]
/-- What window 9 holds after a point. -/
theorem after0_9 (c : Dev nD) (t : Fin cfg0.N) : (dats m 0 c).after 9 t = iblk m c 9 t := by dsimp only [dats]
/-- What window 10 holds after a point. -/
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What window 7 holds before a point. -/
theorem before0_7 (c : Dev nD) (t : Fin cfg0.N) (d) : (dats m 0 c).before 7 t d = iblk m c 7 t :=
  before0_7_of m (dats m 0 c) (A_eq m c 7) (after0_7 m c) t d
/-- What window 8 holds before a point. -/
theorem before0_8 (c : Dev nD) (t : Fin cfg0.N) (d) : (dats m 0 c).before 8 t d = iblk m c 8 t :=
  before0_8_of m (dats m 0 c) (A_eq m c 8) (after0_8 m c) t d
/-- What window 9 holds before a point. -/
theorem before0_9 (c : Dev nD) (t : Fin cfg0.N) (d) : (dats m 0 c).before 9 t d = iblk m c 9 t :=
  before0_9_of m (dats m 0 c) (A_eq m c 9) (after0_9 m c) t d
/-- What window 10 holds before a point. -/
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 19200000 in
/-- The body at any point of the grid: its two conditions in closed form say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 12 := lt_of_lt_of_eq t.isLt (show cfg0.N = 12 from N_0)
  have hc : (cond0_0 (grid0.coords t) ∧ ¬cond0_1 (grid0.coords t)) ∨ (¬cond0_0 (grid0.coords t) ∧ ¬cond0_1 (grid0.coords t))
      ∨ (¬cond0_0 (grid0.coords t) ∧ cond0_1 (grid0.coords t)) := by
    rw [hcond0_0 t, hcond0_1 t]; omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_any c (grid0.coords t) _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => Entails.refl _) (hout := fun _ => Entails.refl _)

/-- At the compiled mesh, for any values, from any memory with zero counters: every weakly fair execution of @main on the
    TensorCores terminates, and every final state has every INPUT array of the pipeline unchanged, nothing stated of the
    FORGOTTEN outputs (windows 11, 12, 13, 14) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_forget m ρ (fun c => (dats m 0 c).toRForget forgets0) (A_eq m) (run_main m ρ)

/-- THE FRAME: `Cert.quiescent_KernelIdeal`'s statement (Defs.lean) at any `F` — Proof.lean cites it at `Bits`:
    `Cert.Proof.claim`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdealFrame

end
-- ==== Proof.IdealRuns.lean ====
/- What the runs of the ideal kernel's body share: the body's two conditions in closed form over the grid, the staging and
   scratch memrefs, and the frame kit's invariant with the scratch buffers as memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x3x160x256 .fp8e4m3 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S3x4x256 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S4x3x16x160 .fp8e4m3 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S3x4x16 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S32x160 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S32x160x512 .fp8e4m3 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x512 .f32 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x512 .f32 := win0_7.stage (cfg0.slots t 7)
/-- Window 7's staging buffer is whole. -/
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S160x6144 .fp8e4m3 := win0_8.stage (cfg0.slots t 8)
/-- Window 8's staging buffer is whole. -/
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S1x160 .f32 := win0_9.stage (cfg0.slots t 9)
/-- Window 9's staging buffer is whole. -/
abbrev hs0_9 (t : Fin cfg0.N) : (ms0_9 t).IsWhole := hstage0_9 ((cfg0.slots t 9).cast nbuf0_9)
/-- Window 10's staging buffer at a point. -/
abbrev ms0_10 (t : Fin cfg0.N) : Memref sig .tc .vmem S1x160 .f32 := win0_10.stage (cfg0.slots t 10)
/-- Window 10's staging buffer is whole. -/
abbrev hs0_10 (t : Fin cfg0.N) : (ms0_10 t).IsWhole := hstage0_10 ((cfg0.slots t 10).cast nbuf0_10)
/-- Window 11's staging buffer at a point. -/
abbrev ms0_11 (t : Fin cfg0.N) : Memref sig .tc .vmem S4x3x16x160 .fp8e4m3 := win0_11.stage (cfg0.slots t 11)
/-- Window 11's staging buffer is whole. -/
abbrev hs0_11 (t : Fin cfg0.N) : (ms0_11 t).IsWhole := hstage0_11 ((cfg0.slots t 11).cast nbuf0_11)
/-- Window 12's staging buffer at a point. -/
abbrev ms0_12 (t : Fin cfg0.N) : Memref sig .tc .vmem S3x4x16 .f32 := win0_12.stage (cfg0.slots t 12)
/-- Window 12's staging buffer is whole. -/
abbrev hs0_12 (t : Fin cfg0.N) : (ms0_12 t).IsWhole := hstage0_12 ((cfg0.slots t 12).cast nbuf0_12)
/-- Window 13's staging buffer at a point. -/
abbrev ms0_13 (t : Fin cfg0.N) : Memref sig .tc .vmem S4x3x16x6144 .fp8e4m3 := win0_13.stage (cfg0.slots t 13)
/-- Window 13's staging buffer is whole. -/
abbrev hs0_13 (t : Fin cfg0.N) : (ms0_13 t).IsWhole := hstage0_13 ((cfg0.slots t 13).cast nbuf0_13)
/-- Window 14's staging buffer at a point. -/
abbrev ms0_14 (t : Fin cfg0.N) : Memref sig .tc .vmem S3x4x16 .f32 := win0_14.stage (cfg0.slots t 14)
/-- Window 14's staging buffer is whole. -/
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S192x5120 .bf16 := Memref.whole cc0_scratch0
/-- Scratch buffer 1. -/
abbrev scM0_1 : Memref sig .tc .vmem S272x128 .f32 := Memref.whole cc0_scratch1
/-- Scratch buffer 2. -/
abbrev scM0_2 : Memref sig .tc .vmem S272x128 .f32 := Memref.whole cc0_scratch2
/-- Scratch buffer 3. -/
abbrev scM0_3 : Memref sig .tc .vmem S12x192x512 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Runs

end
-- ==== Proof.IdealRunA.lean ====
/- The run of the ideal kernel's body at the first point: the block of windows is laid out in scratch, then the first tile of the hidden layer is computed. -/
module

public import proofs.«01_k».proof.Proof.IdealRuns

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at the first point: the block of windows is laid out in scratch, then the first tile of the hidden layer is computed. The pieces its stores leave in each named buffer (last first) are the
    witness the run finds; with them, the proof that on whole memrefs the body runs to a continuation holding the inputs as they
    were and these buffers with their pieces written. -/
noncomputable def kernelRunA (c : Dev nD) (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole) (hc0 : cond0_0 i) (hc1 : ¬cond0_1 i)
    (x0 : Vec F S4x3x160x256 .fp8e4m3) (x1 : Vec F S3x4x256 .f32) (x2 : Vec F S4x3x16x160 .fp8e4m3) (x3 : Vec F S3x4x16 .f32) (x4 : Vec F S32x160 .f32) (x5 : Vec F S32x160x512 .fp8e4m3) (x6 : Vec F S1x512 .f32) (x7 : Vec F S1x512 .f32) (x8 : Vec F S160x6144 .fp8e4m3) (x9 : Vec F S1x160 .f32) (x10 : Vec F S1x160 .f32) (xs1 : Vec F S272x128 .f32) (xs2 : Vec F S272x128 .f32) (xs3 : Vec F S12x192x512 .f32) :
    Σ' (L16 : List (View.Piece (Elt F) S192x5120 .bf16)), { L19 : List (View.Piece (Elt F) S12x192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs1 ∗ owns (c : Thread nD τ) arg18 fullShare xs2 ∗ owns (c : Thread nD τ) arg19 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f L16) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs3) L19)) -∗ K ⟨⟩))
          ⊢ wp frame (wpE (defs₀ (F := F)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_nsa_compress_eq_skeleton]; unfold cc0_nsa_compress_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hf16; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]; · iexists _; iexact H15
    isplitl [H16]
    · iexists _, _; isplitr; swap; · iexact H16
      ipureintro; rfl
    isplitl [H17]
    · iexists _, _; isplitr; swap; · iexact H17
      ipureintro; rfl
    iexact H18

end Cert.KernelIdeal.Runs

end
-- ==== Proof.IdealRunB.lean ====
/- The run of the ideal kernel's body at the points between: one tile of the hidden layer. -/
module

public import proofs.«01_k».proof.Proof.IdealRunA

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at the points between: one tile of the hidden layer. The pieces its stores leave in each named buffer (last first) are the
    witness the run finds; with them, the proof that on whole memrefs the body runs to a continuation holding the inputs as they
    were and these buffers with their pieces written. -/
noncomputable def kernelRunB (c : Dev nD) (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole) (hc0 : ¬cond0_0 i) (hc1 : ¬cond0_1 i)
    (x0 : Vec F S4x3x160x256 .fp8e4m3) (x1 : Vec F S3x4x256 .f32) (x2 : Vec F S4x3x16x160 .fp8e4m3) (x3 : Vec F S3x4x16 .f32) (x4 : Vec F S32x160 .f32) (x5 : Vec F S32x160x512 .fp8e4m3) (x6 : Vec F S1x512 .f32) (x7 : Vec F S1x512 .f32) (x8 : Vec F S160x6144 .fp8e4m3) (x9 : Vec F S1x160 .f32) (x10 : Vec F S1x160 .f32) (xs0 : Vec F S192x5120 .bf16) (xs3 : Vec F S12x192x512 .f32) :
    { L19 : List (View.Piece (Elt F) S12x192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ owns (c : Thread nD τ) arg19 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs3) L19)) -∗ K ⟨⟩))
          ⊢ wp frame (wpE (defs₀ (F := F)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_nsa_compress_eq_skeleton]; unfold cc0_nsa_compress_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf15; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    iexact H18

end Cert.KernelIdeal.Runs

end
-- ==== Proof.IdealRunC.lean ====
/- The run of the ideal kernel's body at the last point: its tile of the hidden layer, then the four results. -/
module

public import proofs.«01_k».proof.Proof.IdealRunB

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The body at the last point: its tile of the hidden layer, then the four results. The pieces its stores leave in each named buffer (last first) are the
    witness the run finds; with them, the proof that on whole memrefs the body runs to a continuation holding the inputs as they
    were and these buffers with their pieces written. -/
noncomputable def kernelRunC (c : Dev nD) (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole) (hc0 : ¬cond0_0 i) (hc1 : cond0_1 i)
    (x0 : Vec F S4x3x160x256 .fp8e4m3) (x1 : Vec F S3x4x256 .f32) (x2 : Vec F S4x3x16x160 .fp8e4m3) (x3 : Vec F S3x4x16 .f32) (x4 : Vec F S32x160 .f32) (x5 : Vec F S32x160x512 .fp8e4m3) (x6 : Vec F S1x512 .f32) (x7 : Vec F S1x512 .f32) (x8 : Vec F S160x6144 .fp8e4m3) (x9 : Vec F S1x160 .f32) (x10 : Vec F S1x160 .f32) (xs0 : Vec F S192x5120 .bf16) (xs3 : Vec F S12x192x512 .f32) :
    Σ' (L12 : List (View.Piece (Elt F) S4x3x16x160 .fp8e4m3)), Σ' (L13 : List (View.Piece (Elt F) S3x4x16 .f32)), Σ' (L14 : List (View.Piece (Elt F) S4x3x16x6144 .fp8e4m3)), Σ' (L15 : List (View.Piece (Elt F) S3x4x16 .f32)), { L19 : List (View.Piece (Elt F) S12x192x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ owns (c : Thread nD τ) arg19 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare xs0 ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs3) L19)) -∗ K ⟨⟩))
          ⊢ wp frame (wpE (defs₀ (F := F)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_nsa_compress_eq_skeleton]; unfold cc0_nsa_compress_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf15; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    iexact H18

end Cert.KernelIdeal.Runs

end
-- ==== Proof.IdealTail.lean ====
/- The tile of the hidden layer a point stores, and what the last point stores into the four outputs, each as one term over the tiles. -/
module

public import proofs.«01_k».proof.Proof.IdealRunC

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tile

variable (arg6 : Memref sig .tc .vmem S32x160x512 .fp8e4m3) (harg6 : arg6.IsWhole) (x5 : Vec F S32x160x512 .fp8e4m3)

/-- The rectangle is inside its buffer. -/
theorem inbWm (j : Nat) (hj : j < 32) : ∀ a, (![j, 0, 0] : Fin 3 → Nat) a + S1x128x512.size a ≤ S32x160x512.size a := by
  intro a; fin_cases a <;> simp [S1x128x512, S32x160x512] <;> omega
/-- The rectangle is inside its buffer. -/
theorem inbWs (j : Nat) (hj : j < 32) : ∀ a, (![j, 128, 0] : Fin 3 → Nat) a + S1x32x512.size a ≤ S32x160x512.size a := by
  intro a; fin_cases a <;> simp [S1x32x512, S32x160x512] <;> omega
/-- The rectangle is inside its buffer. -/
theorem inbT (n : Nat) (hn : n < 12) : ∀ a, (![n, 0, 0] : Fin 3 → Nat) a + S1x192x512.size a ≤ S12x192x512.size a := by
  intro a; fin_cases a <;> simp [S1x192x512, S12x192x512] <;> omega
/-- The rectangle is inside its buffer. -/
theorem inbV (n : Nat) (hn : n < 12) : ∀ a, (![0, 512 * n] : Fin 2 → Nat) a + S160x512.size a ≤ S160x6144.size a := by
  intro a; fin_cases a <;> simp [S160x512, S160x6144] <;> omega
/-- The rectangle is inside its buffer. -/
theorem inbH (n : Nat) (hn : n < 12) : ∀ a, (![0, 0, 0, 512 * n] : Fin 4 → Nat) a + S4x3x16x512.size a ≤ S4x3x16x6144.size a := by
  intro a; fin_cases a <;> simp [S4x3x16x512, S4x3x16x6144] <;> omega
/-- The rectangle is inside its buffer. -/
theorem inbR (n : Nat) (hn : n < 12) : ∀ a, (![n % 3, n / 3, 0] : Fin 3 → Nat) a + S1x1x16.size a ≤ S3x4x16.size a := by
  intro a; fin_cases a <;> simp [S1x1x16, S3x4x16] <;> omega
/-- A group's rows are inside the column. -/
theorem slR (n : Nat) (hn : n < 12) : Shape.Slices S192x1 ![16 * n, 0] S16x1 := by
  refine ⟨rfl, fun a => ?_⟩
  fin_cases a <;> simp [S16x1, S192x1] <;> omega

/-- Token `j`'s weights of the first 128 features. -/
def wMain (j : Fin 32) : FVec F S128x512 .fp8e4m3 :=
  shapeCast S128x512 (View.readAt (Elt F) arg6.view (Rect.unit (s := S32x160x512) ![j.val, 0, 0] S1x128x512.size (inbWm j.val j.isLt)).toLoadRect (harg6.unread x5)) shapeCasts_S1x128x512_S128x512
/-- Token `j`'s weights of the last 32 features. -/
def wSide (j : Fin 32) : FVec F S32x512 .fp8e4m3 :=
  shapeCast S32x512 (View.readAt (Elt F) arg6.view (Rect.unit (s := S32x160x512) ![j.val, 128, 0] S1x32x512.size (inbWs j.val j.isLt)).toLoadRect (harg6.unread x5)) shapeCasts_S1x32x512_S32x512
/-- The pieces of the first layer's weights, in the order of the block of windows' columns. -/
def wL : List ((s : Shape) × (s.Idx → Elt F .fp8e4m3)) :=
  List.ofFn (fun j : Fin 32 => ⟨S128x512, wMain arg6 harg6 x5 j⟩) ++ List.ofFn (fun j : Fin 32 => ⟨S32x512, wSide arg6 harg6 x5 j⟩)
/-- The shapes of the pieces of weights. -/
theorem wL_shapes : (wL arg6 harg6 x5).map (·.1) = List.replicate 32 S128x512 ++ List.replicate 32 S32x512 := by
  sl_kernel_rfl
/-- The pieces make up the 5120 rows. -/
theorem wL_cat : Shape.Concatenates ((wL arg6 harg6 x5).map (·.1)) S5120x512 0 := by
  rw [wL_shapes]; decide +kernel

/-- A tile of the hidden layer from the block of windows, the tile's weights, scales and biases: the product, scaled and
    shifted, through the activation. -/
def tileV (x : FVec F S192x5120 .bf16) (s b : FVec F S1x512 .f32) : FVec F S192x512 .f32 :=
  have h : FVec F S192x512 .f32 := addf (mulf (matmul dot_S192x5120_S5120x512_S192x512_1_0_0_1_n_n none x (concatenate S5120x512 0 (wL arg6 harg6 x5) (wL_cat arg6 harg6 x5)) (constant S192x512 .f32 0x00000000#32))
    (broadcastTo S192x512 (shapeCast S1x512 s shapeCasts_S1x512_S1x512) broadcasts_S1x512_S192x512)) (broadcastTo S192x512 (shapeCast S1x512 b shapeCasts_S1x512_S1x512) broadcasts_S1x512_S192x512)
  mulf (mulf (broadcast S192x512 (Scalar.ofBits .f32 0x3F000000#32)) h) (addf (broadcast S192x512 (Scalar.ofBits .f32 0x3F800000#32)) (erf (mulf h (broadcast S192x512 (Scalar.ofBits .f32 0x3F3504F3#32)))))

end Tile

section Quantizer

/-- One round of the search for the exponent field: take the bit if the value is at least the power of two it makes. -/
def stepE (a : FVec F S192x128 .f32) (e : IVec S192x128 32) (off bit : BitVec 32) : IVec S192x128 32 :=
  select (cmpf .oge a (bitcastToFloat .f32 (shli (addi (addi e (broadcast S192x128 off)) (broadcast S192x128 127#32)) (broadcast S192x128 23#32))))
    (addi e (broadcast S192x128 bit)) e
/-- The exponent field the eight rounds find. -/
def fieldE (a : FVec F S192x128 .f32) : IVec S192x128 32 :=
  stepE a (stepE a (stepE a (stepE a (stepE a (stepE a (stepE a (stepE a (broadcast S192x128 0#32) 1#32 128#32) 4294967233#32 64#32) 4294967201#32 32#32)
    4294967185#32 16#32) 4294967177#32 8#32) 4294967173#32 4#32) 4294967171#32 2#32) 4294967170#32 1#32
/-- The field, 255 from the 120th power of two on. -/
def fieldC (a : FVec F S192x128 .f32) : IVec S192x128 32 :=
  select (cmpf .olt a (broadcast S192x128 (Scalar.ofBits .f32 0x7B800000#32))) (fieldE a) (broadcast S192x128 255#32)
/-- The exponent of a field: zero at fields 0 and 255, else the field less 126. -/
def expoF (f : IVec S192x128 32) : IVec S192x128 32 :=
  select (ori (cmpi .eq f (broadcast S192x128 0#32)) (cmpi .eq f (broadcast S192x128 255#32))) (broadcast S192x128 0#32) (subi f (broadcast S192x128 126#32))
/-- The exponent. -/
def expo (a : FVec F S192x128 .f32) : IVec S192x128 32 := expoF (fieldC a)
/-- The power of two at minus the exponent. -/
def powNeg (e : IVec S192x128 32) : FVec F S192x1 .f32 :=
  extractStridedSlice S192x1 ![0, 0] (bitcastToFloat .f32 (shli (addi (subi (broadcast S192x128 0#32) e) (broadcast S192x128 127#32)) (broadcast S192x128 23#32))) slices_S192x128_o0_0_S192x1
/-- The power of two at the exponent. -/
def powPos (e : IVec S192x128 32) : FVec F S192x1 .f32 :=
  extractStridedSlice S192x1 ![0, 0] (bitcastToFloat .f32 (shli (addi e (broadcast S192x128 127#32)) (broadcast S192x128 23#32))) slices_S192x128_o0_0_S192x1
/-- A column of maxima over 448, on every lane. -/
def over448 (a : FVec F S192x1 .f32) : FVec F S192x128 .f32 :=
  mulf (broadcastTo S192x128 a broadcasts_S192x1_S192x128) (broadcast S192x128 (Scalar.ofBits .f32 0x3B124925#32))
/-- A group's scales laid along a row. -/
def scaleRow (v : FVec F S192x1 .f32) (n : Nat) (hn : n < 12) : FVec F S1x1x16 .f32 :=
  shapeCast S1x1x16 (shapeCast S1x16 (multiReduction .add [0] S16 (select (cmpi .eq (iota .tc S16x16 32 [0] iota_S16x16_d0_w32) (iota .tc S16x16 32 [1] iota_S16x16_d1_w32))
    (broadcastTo S16x16 (shapeCast S16x1 (extractStridedSlice S16x1 ![16 * n, 0] v (slR n hn)) shapeCasts_S16x1_S16x1) broadcasts_S16x1_S16x16)
    (broadcast S16x16 (Scalar.ofBits .f32 0x00000000#32))) 0x00000000#32 reduces_S16x16_S16_2 (.inl rfl) rfl) shapeCasts_S16_S1x16) shapeCasts_S1x16_S1x1x16
/-- The stores of the first `n` groups' scales, the last first. -/
def scaleL (v : FVec F S192x1 .f32) : (n : Nat) → n ≤ 12 → List (View.Piece (Elt F) S3x4x16 .f32)
  | 0, _ => []
  | n + 1, h => ⟨Rect.unit ![n % 3, n / 3, 0] S1x1x16.size (inbR n h), scaleRow v n h⟩ :: scaleL v n (Nat.le_of_succ_le h)

variable (T : (n : Nat) → n < 12 → FVec F S1x192x512 .f32) (W : (n : Nat) → n < 12 → FVec F S160x512 .fp8e4m3) (s2 b2 : FVec F S1x160 .f32)

/-- Tile `n`'s largest magnitude in each row. -/
def tileMax (n : Nat) (hn : n < 12) : FVec F S192x1 .f32 :=
  shapeCast S192x1 (multiReduction .maximumf [1] S192 (absf (shapeCast S192x512 (T n hn) shapeCasts_S1x192x512_S192x512)) 0xFF800000#32 reduces_S192x512_S192 (.inl rfl) rfl) shapeCasts_S192_S192x1
/-- The largest magnitude in each row over tiles `0 … n`. -/
def rowMax : (n : Nat) → n < 12 → FVec F S192x1 .f32
  | 0, h => tileMax T 0 h
  | n + 1, h => maximumf (rowMax n (Nat.lt_of_succ_lt h)) (tileMax T (n + 1) h)
/-- The largest magnitude in each row of the hidden layer. -/
def hidMax : FVec F S192x1 .f32 := shapeCast S192x1 (rowMax T 11 (by decide)) shapeCasts_S192x1_S192x1
/-- A tile's codes from the inverse scales. -/
def codeOf (inv : FVec F S192x1 .f32) (t : FVec F S1x192x512 .f32) : FVec F S192x512 .fp8e4m3 :=
  truncf .fp8e4m3 (minimumf (broadcast S192x512 (Scalar.ofBits .f32 0x43E00000#32)) (maximumf (broadcast S192x512 (Scalar.ofBits .f32 0xC3E00000#32))
    (mulf (shapeCast S192x512 t shapeCasts_S1x192x512_S192x512) (broadcastTo S192x512 inv broadcasts_S192x1_S192x512)))) bitsLt_fp8e4m3_f32
/-- The stores of the first `n` tiles' codes, the last first. -/
def codeL (inv : FVec F S192x1 .f32) : (n : Nat) → n ≤ 12 → List (View.Piece (Elt F) S4x3x16x6144 .fp8e4m3)
  | 0, _ => []
  | n + 1, h => ⟨Rect.unit ![0, 0, 0, 512 * n] S4x3x16x512.size (inbH n h), shapeCast S4x3x16x512 (codeOf inv (T n h)) shapeCasts_S192x512_S4x3x16x512⟩ :: codeL inv n (Nat.le_of_succ_le h)
/-- The second layer's products summed over the first `n` tiles. -/
def acc2 (inv : FVec F S192x1 .f32) : (n : Nat) → n ≤ 12 → FVec F S192x160 .f32
  | 0, _ => broadcast S192x160 (Scalar.ofBits .f32 0x00000000#32)
  | n + 1, h => addf (acc2 inv n (Nat.le_of_succ_le h)) (matmul dot_S192x512_S160x512_S192x160_1_1_0_0_n_n none (codeOf inv (T n h)) (shapeCast S160x512 (W n h) shapeCasts_S160x512_S160x512) (constant S192x160 .f32 0x00000000#32))
/-- The second layer's outputs. -/
def out2 (inv pos : FVec F S192x1 .f32) : FVec F S192x160 .f32 :=
  addf (mulf (mulf (acc2 T W inv 12 (Nat.le_refl 12)) (broadcastTo S192x160 pos broadcasts_S192x1_S192x160))
    (broadcastTo S192x160 (shapeCast S1x160 s2 shapeCasts_S1x160_S1x160) broadcasts_S1x160_S192x160)) (broadcastTo S192x160 (shapeCast S1x160 b2 shapeCasts_S1x160_S1x160) broadcasts_S1x160_S192x160)
/-- The largest magnitude in each row of outputs. -/
def outMax (o : FVec F S192x160 .f32) : FVec F S192x1 .f32 :=
  shapeCast S192x1 (shapeCast S192x1 (multiReduction .maximumf [1] S192 (absf o) 0xFF800000#32 reduces_S192x160_S192 (.inl rfl) rfl) shapeCasts_S192_S192x1) shapeCasts_S192x1_S192x1
/-- The outputs' codes. -/
def outCode (o : FVec F S192x160 .f32) (inv : FVec F S192x1 .f32) : FVec F S4x3x16x160 .fp8e4m3 :=
  shapeCast S4x3x16x160 (truncf .fp8e4m3 (minimumf (broadcast S192x160 (Scalar.ofBits .f32 0x43E00000#32)) (maximumf (broadcast S192x160 (Scalar.ofBits .f32 0xC3E00000#32))
    (mulf o (broadcastTo S192x160 inv broadcasts_S192x1_S192x160)))) bitsLt_fp8e4m3_f32) shapeCasts_S192x160_S4x3x16x160
/-- The word of the power of two a round tries. -/
def wordE (e : IVec S192x128 32) (off : BitVec 32) : IVec S192x128 32 :=
  shli (addi (addi e (broadcast S192x128 off)) (broadcast S192x128 127#32)) (broadcast S192x128 23#32)
/-- The exponents a column of maxima gives. -/
abbrev exM (m : FVec F S192x1 .f32) : IVec S192x128 32 := expo (over448 m)
/-- The outputs from the tiles, the weights, the scales and the biases. -/
def outV : FVec F S192x160 .f32 := out2 T W s2 b2 (powNeg (expo (over448 (hidMax T)))) (powPos (expo (over448 (hidMax T))))

/-- The row maxima as the body composes them. -/
theorem max_pay : k0_pay772 (k0_pay771 (T 0 (by decide)) (T 1 (by decide)) (T 2 (by decide)) (T 3 (by decide)) (T 4 (by decide)) (T 5 (by decide)))
    (T 6 (by decide)) (T 7 (by decide)) (T 8 (by decide)) (T 9 (by decide)) (T 10 (by decide)) (T 11 (by decide)) = hidMax T := by
  sl_kernel_rfl
/-- A value of the body's last point is the named function of what it is computed from. -/
theorem pay774 (m : FVec F S192x1 .f32) : k0_pay774 m = stepE (over448 m) (stepE (over448 m) (stepE (over448 m) (broadcast S192x128 0#32) 1#32 128#32) 4294967233#32 64#32) 4294967201#32 32#32 := by
  sl_kernel_rfl
/-- A value of the body's last point is the named function of what it is computed from. -/
theorem pay776 (a : FVec F S192x128 .f32) (e : IVec S192x128 32) : k0_pay776 a e (wordE e 4294967185#32)
    = stepE a (stepE a (stepE a (stepE a e 4294967185#32 16#32) 4294967177#32 8#32) 4294967173#32 4#32) 4294967171#32 2#32 := by
  sl_kernel_rfl
/-- A value of the body's last point is the named function of what it is computed from. -/
theorem pay778 (a : FVec F S192x128 .f32) (e : IVec S192x128 32) : k0_pay778 a e (wordE e 4294967170#32)
    = expoF (select (cmpf .olt a (broadcast S192x128 (Scalar.ofBits .f32 0x7B800000#32))) (stepE a e 4294967170#32 1#32) (broadcast S192x128 255#32)) := by
  sl_kernel_rfl
/-- A value of the body's last point is the named function of what it is computed from. -/
theorem pay778_expo (m : FVec F S192x1 .f32) : k0_pay778 (k0_pay773 m) (k0_pay776 (k0_pay773 m) (k0_pay774 m) (k0_pay775 m)) (k0_pay777 (k0_pay773 m) (k0_pay774 m) (k0_pay775 m))
    = expo (over448 m) := by
  have h5 : k0_pay775 m = wordE (k0_pay774 m) 4294967185#32 := rfl
  have h7 : k0_pay777 (k0_pay773 m) (k0_pay774 m) (k0_pay775 m) = wordE (k0_pay776 (k0_pay773 m) (k0_pay774 m) (k0_pay775 m)) 4294967170#32 := rfl
  rw [h7, pay778, h5, pay776, pay774]; rfl
/-- A value of the body's last point is the named function of what it is computed from. -/
theorem pay779 (a : FVec F S192x128 .f32) (e w : IVec S192x128 32) : k0_pay779 a e w = powNeg (k0_pay778 a e w) := by sl_kernel_rfl
/-- A value of the body's last point is the named function of what it is computed from. -/
theorem pay780 (a : FVec F S192x128 .f32) (e w : IVec S192x128 32) : k0_pay780 a e w = powPos (k0_pay778 a e w) := by sl_kernel_rfl
/-- A value of the body's last point is the named function of what it is computed from. -/
theorem pay782 (a : FVec F S192x128 .f32) (e w : IVec S192x128 32) (t : FVec F S1x192x512 .f32) : k0_pay782 a e w t = codeOf (k0_pay779 a e w) t := by sl_kernel_rfl

/-- A value of the body's last point is the named function of what it is computed from. -/
theorem inv_pay (m : FVec F S192x1 .f32) : k0_pay779 (k0_pay773 m) (k0_pay776 (k0_pay773 m) (k0_pay774 m) (k0_pay775 m)) (k0_pay777 (k0_pay773 m) (k0_pay774 m) (k0_pay775 m))
    = powNeg (exM m) := by rw [pay779, pay778_expo]
/-- A value of the body's last point is the named function of what it is computed from. -/
theorem pos_pay (m : FVec F S192x1 .f32) : k0_pay780 (k0_pay773 m) (k0_pay776 (k0_pay773 m) (k0_pay774 m) (k0_pay775 m)) (k0_pay777 (k0_pay773 m) (k0_pay774 m) (k0_pay775 m))
    = powPos (exM m) := by rw [pay780, pay778_expo]
/-- A value of the body's last point is the named function of what it is computed from. -/
theorem code_pay (m : FVec F S192x1 .f32) (t : FVec F S1x192x512 .f32) : k0_pay782 (k0_pay773 m) (k0_pay776 (k0_pay773 m) (k0_pay774 m) (k0_pay775 m)) (k0_pay777 (k0_pay773 m) (k0_pay774 m) (k0_pay775 m)) t
    = codeOf (powNeg (exM m)) t := by rw [pay782, inv_pay]

/-- The second layer's sums before the last tile's. -/
theorem acc_pay (inv : FVec F S192x1 .f32) :
    k0_pay809 inv (k0_pay804 inv (k0_pay796 inv (k0_pay791 inv (k0_pay786 inv k0_pay781 (codeOf inv (T 0 (by decide))) (W 0 (by decide)) (T 1 (by decide)) (W 1 (by decide)))
      (k0_pay787 inv (T 2 (by decide))) (W 2 (by decide)) (T 3 (by decide)) (W 3 (by decide)))
      (k0_pay792 inv (T 4 (by decide))) (W 4 (by decide)) (T 5 (by decide)) (W 5 (by decide)))
      (k0_pay797 inv (T 6 (by decide))) (k0_pay799 (W 6 (by decide))) (constant S192x160 .f32 0x00000000#32) (T 7 (by decide)) (W 7 (by decide)) (T 8 (by decide)) (W 8 (by decide)))
      (T 9 (by decide)) (W 9 (by decide)) (T 10 (by decide)) (W 10 (by decide)) = acc2 T W inv 11 (by decide) := by
  sl_kernel_rfl
/-- A value of the body's last point is the named function of what it is computed from. -/
theorem out_pay (inv pos : FVec F S192x1 .f32) : k0_pay814 pos (acc2 T W inv 11 (by decide)) (k0_pay810 (T 11 (by decide))) (k0_pay811 inv) (W 11 (by decide)) s2 b2
    = out2 T W s2 b2 inv pos := by
  sl_kernel_rfl
/-- A value of the body's last point is the named function of what it is computed from. -/
theorem pay815 (pos : FVec F S192x1 .f32) (a : FVec F S192x160 .f32) (t v : FVec F S192x512 .f32) (w : FVec F S160x512 .fp8e4m3) :
    k0_pay815 pos a t v w s2 b2 = over448 (outMax (k0_pay814 pos a t v w s2 b2)) := by sl_kernel_rfl
/-- A value of the body's last point is the named function of what it is computed from. -/
theorem pay817 (pos : FVec F S192x1 .f32) (a : FVec F S192x160 .f32) (t v : FVec F S192x512 .f32) (w : FVec F S160x512 .fp8e4m3) :
    k0_pay817 pos a t v w s2 b2 = cmpf .oge (k0_pay815 pos a t v w s2 b2) (bitcastToFloat .f32 (wordE (broadcast S192x128 0#32) 1#32)) := by sl_kernel_rfl
/-- A value of the body's last point is the named function of what it is computed from. -/
theorem pay819 (a : FVec F S192x128 .f32) : k0_pay819 a k0_pay816 (cmpf .oge a (bitcastToFloat .f32 (wordE (broadcast S192x128 0#32) 1#32))) k0_pay818
    = stepE a (stepE a (stepE a (stepE a (broadcast S192x128 0#32) 1#32 128#32) 4294967233#32 64#32) 4294967201#32 32#32) 4294967185#32 16#32 := by
  sl_kernel_rfl
/-- A value of the body's last point is the named function of what it is computed from. -/
theorem pay822 (a : FVec F S192x128 .f32) (e : IVec S192x128 32) : k0_pay822 a e (cmpf .oge a (bitcastToFloat .f32 (wordE e 4294967177#32))) k0_pay821
    = select (cmpf .olt a (broadcast S192x128 (Scalar.ofBits .f32 0x7B800000#32))) (stepE a (stepE a (stepE a (stepE a e 4294967177#32 8#32) 4294967173#32 4#32) 4294967171#32 2#32) 4294967170#32 1#32)
        (broadcast S192x128 255#32) := by
  sl_kernel_rfl
/-- A value of the body's last point is the named function of what it is computed from. -/
theorem pay820 (a : FVec F S192x128 .f32) (e : IVec S192x128 32) (v : IVec S192x128 1) (w : IVec S192x128 32) :
    k0_pay820 a e v w = cmpf .oge a (bitcastToFloat .f32 (wordE (k0_pay819 a e v w) 4294967177#32)) := by sl_kernel_rfl
/-- A value of the body's last point is the named function of what it is computed from. -/
theorem pay824 (a : FVec F S192x128 .f32) (e : IVec S192x128 32) (v : IVec S192x128 1) (w : IVec S192x128 32) :
    k0_pay824 (k0_pay822 a e v w) (k0_pay823 a e v w) = expoF (k0_pay822 a e v w) := by sl_kernel_rfl
/-- A value of the body's last point is the named function of what it is computed from. -/
theorem field_pay (a : FVec F S192x128 .f32) {v : IVec S192x128 1} (hv : v = cmpf .oge a (bitcastToFloat .f32 (wordE (broadcast S192x128 0#32) 1#32))) :
    k0_pay822 a (k0_pay819 a k0_pay816 v k0_pay818) (k0_pay820 a k0_pay816 v k0_pay818) k0_pay821 = fieldC a := by
  subst hv; rw [pay820, pay822, pay819]; rfl
/-- A value of the body's last point is the named function of what it is computed from. -/
theorem expo_pay (a : FVec F S192x128 .f32) {v : IVec S192x128 1} (hv : v = cmpf .oge a (bitcastToFloat .f32 (wordE (broadcast S192x128 0#32) 1#32))) :
    k0_pay824 (k0_pay822 a (k0_pay819 a k0_pay816 v k0_pay818) (k0_pay820 a k0_pay816 v k0_pay818) k0_pay821)
      (k0_pay823 a (k0_pay819 a k0_pay816 v k0_pay818) (k0_pay820 a k0_pay816 v k0_pay818) k0_pay821) = expo a := by
  rw [pay824, field_pay a hv]; rfl
/-- A value of the body's last point is the named function of what it is computed from. -/
theorem pay825 (o : FVec F S192x160 .f32) (f : IVec S192x128 32) (z : IVec S192x128 1) : k0_pay825 o f z = outCode o (powNeg (k0_pay824 f z)) := by sl_kernel_rfl
/-- A value of the body's last point is the named function of what it is computed from. -/
theorem pay826 (f : IVec S192x128 32) (z : IVec S192x128 1) : k0_pay826 (F := F) f z = powPos (k0_pay824 f z) := by sl_kernel_rfl

/-- The last point's row maxima as its payloads compose. -/
def pMax : FVec F S192x1 .f32 := k0_pay772 (k0_pay771 (T 0 (by decide)) (T 1 (by decide)) (T 2 (by decide)) (T 3 (by decide)) (T 4 (by decide)) (T 5 (by decide))) (T 6 (by decide)) (T 7 (by decide)) (T 8 (by decide)) (T 9 (by decide)) (T 10 (by decide)) (T 11 (by decide))
/-- Its first search's field before the last rounds. -/
def pFld (m : FVec F S192x1 .f32) : IVec S192x128 32 := k0_pay776 (k0_pay773 m) (k0_pay774 m) (k0_pay775 m)
/-- The word of the last round of its first search. -/
def pWrd (m : FVec F S192x1 .f32) : IVec S192x128 32 := k0_pay777 (k0_pay773 m) (k0_pay774 m) (k0_pay775 m)
/-- Its inverse scales. -/
def pInv (m : FVec F S192x1 .f32) : FVec F S192x1 .f32 := k0_pay779 (k0_pay773 m) (pFld m) (pWrd m)
/-- Its scales. -/
def pPos (m : FVec F S192x1 .f32) : FVec F S192x1 .f32 := k0_pay780 (k0_pay773 m) (pFld m) (pWrd m)
/-- Its sums before the last tile's. -/
def pAcc (m : FVec F S192x1 .f32) : FVec F S192x160 .f32 :=
  k0_pay809 (pInv m) (k0_pay804 (pInv m) (k0_pay796 (pInv m) (k0_pay791 (pInv m) (k0_pay786 (pInv m) k0_pay781 (k0_pay782 (k0_pay773 m) (pFld m) (pWrd m) (T 0 (by decide))) (W 0 (by decide)) (T 1 (by decide)) (W 1 (by decide)))
      (k0_pay787 (pInv m) (T 2 (by decide))) (W 2 (by decide)) (T 3 (by decide)) (W 3 (by decide)))
      (k0_pay792 (pInv m) (T 4 (by decide))) (W 4 (by decide)) (T 5 (by decide)) (W 5 (by decide)))
      (k0_pay797 (pInv m) (T 6 (by decide))) (k0_pay799 (W 6 (by decide))) (constant S192x160 .f32 0x00000000#32) (T 7 (by decide)) (W 7 (by decide)) (T 8 (by decide)) (W 8 (by decide)))
      (T 9 (by decide)) (W 9 (by decide)) (T 10 (by decide)) (W 10 (by decide))
/-- Its outputs. -/
def pOut (m : FVec F S192x1 .f32) : FVec F S192x160 .f32 := k0_pay814 (pPos m) (pAcc T W m) (k0_pay810 (T 11 (by decide))) (k0_pay811 (pInv m)) (W 11 (by decide)) s2 b2
/-- Its outputs' maxima over 448. -/
def pOvr (m : FVec F S192x1 .f32) : FVec F S192x128 .f32 := k0_pay815 (pPos m) (pAcc T W m) (k0_pay810 (T 11 (by decide))) (k0_pay811 (pInv m)) (W 11 (by decide)) s2 b2
/-- The first round of its second search. -/
def pBit (m : FVec F S192x1 .f32) : IVec S192x128 1 := k0_pay817 (pPos m) (pAcc T W m) (k0_pay810 (T 11 (by decide))) (k0_pay811 (pInv m)) (W 11 (by decide)) s2 b2
/-- Its second search's field. -/
def pFld2 (a : FVec F S192x128 .f32) (v : IVec S192x128 1) : IVec S192x128 32 := k0_pay822 a (k0_pay819 a k0_pay816 v k0_pay818) (k0_pay820 a k0_pay816 v k0_pay818) k0_pay821
/-- Whether its second search's field stands for exponent zero. -/
def pZro2 (a : FVec F S192x128 .f32) (v : IVec S192x128 1) : IVec S192x128 1 := k0_pay823 a (k0_pay819 a k0_pay816 v k0_pay818) (k0_pay820 a k0_pay816 v k0_pay818) k0_pay821

/-- These values of the body are the row maxima. -/
theorem pMax_eq : pMax T = hidMax T := max_pay T
/-- These values of the body are the inverse scales. -/
theorem pInv_eq (m : FVec F S192x1 .f32) : pInv m = powNeg (exM m) := inv_pay m
/-- These values of the body are the scales. -/
theorem pPos_eq (m : FVec F S192x1 .f32) : pPos m = powPos (exM m) := pos_pay m
/-- These values of the body are the sums over the first eleven tiles. -/
theorem pAcc_eq (m : FVec F S192x1 .f32) : pAcc T W m = acc2 T W (powNeg (exM m)) 11 (by decide) := by
  have h : k0_pay782 (k0_pay773 m) (pFld m) (pWrd m) (T 0 (by decide)) = codeOf (powNeg (exM m)) (T 0 (by decide)) := code_pay m _
  unfold pAcc; rw [h, pInv_eq]; exact acc_pay T W _
/-- These values of the body are the outputs. -/
theorem pOut_eq (m : FVec F S192x1 .f32) : pOut T W s2 b2 m = out2 T W s2 b2 (powNeg (exM m)) (powPos (exM m)) := by
  unfold pOut; rw [pAcc_eq, pInv_eq, pPos_eq]; exact out_pay T W s2 b2 _ _
/-- These values of the body are the outputs' maxima over 448. -/
theorem pOvr_eq (m : FVec F S192x1 .f32) : pOvr T W s2 b2 m = over448 (outMax (pOut T W s2 b2 m)) := pay815 ..
/-- That round is the comparison with the middle power of two. -/
theorem pBit_eq (m : FVec F S192x1 .f32) : pBit T W s2 b2 m = cmpf .oge (pOvr T W s2 b2 m) (bitcastToFloat .f32 (wordE (broadcast S192x128 0#32) 1#32)) := pay817 ..
/-- These values of the body are the outputs' exponents. -/
theorem pExp_eq (m : FVec F S192x1 .f32) : k0_pay824 (pFld2 (pOvr T W s2 b2 m) (pBit T W s2 b2 m)) (pZro2 (pOvr T W s2 b2 m) (pBit T W s2 b2 m))
    = exM (outMax (out2 T W s2 b2 (powNeg (exM m)) (powPos (exM m)))) := by
  rw [← pOut_eq]
  exact (expo_pay _ (pBit_eq T W s2 b2 m)).trans (congrArg expo (pOvr_eq T W s2 b2 m))

end Quantizer

section Found

variable (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole)
    (x0 : Vec F S4x3x160x256 .fp8e4m3) (x1 : Vec F S3x4x256 .f32) (x2 : Vec F S4x3x16x160 .fp8e4m3) (x3 : Vec F S3x4x16 .f32) (x4 : Vec F S32x160 .f32) (x5 : Vec F S32x160x512 .fp8e4m3) (x6 : Vec F S1x512 .f32) (x7 : Vec F S1x512 .f32) (x8 : Vec F S160x6144 .fp8e4m3) (x9 : Vec F S1x160 .f32) (x10 : Vec F S1x160 .f32) (xs0 : Vec F S192x5120 .bf16) (xs3 : Vec F S12x192x512 .f32)

/-- The block of windows read whole from scratch. -/
def xRead : FVec F S192x5120 .bf16 := View.readAt (Elt F) arg16.view (Rect.unit (s := S192x5120) ![0, 0] S192x5120.size inb_S192x5120_S192x5120_0_0).toLoadRect (harg16.unread xs0)
/-- A row of scales or biases of the first layer's tile, read whole. -/
def rowRead (m : Memref sig .tc .vmem S1x512 .f32) (hm : m.IsWhole) (x : Vec F S1x512 .f32) : FVec F S1x512 .f32 :=
  View.readAt (Elt F) m.view (Rect.unit (s := S1x512) ![0, 0] S1x512.size inb_S1x512_S1x512_0_0).toLoadRect (hm.unread x)
/-- A row of scales or biases of the second layer, read whole. -/
def rowRead2 (m : Memref sig .tc .vmem S1x160 .f32) (hm : m.IsWhole) (x : Vec F S1x160 .f32) : FVec F S1x160 .f32 :=
  View.readAt (Elt F) m.view (Rect.unit (s := S1x160) ![0, 0] S1x160.size inb_S1x160_S1x160_0_0).toLoadRect (hm.unread x)

/-- The store of the point's tile. -/
def tileL (x : FVec F S192x5120 .bf16) : List (View.Piece (Elt F) S12x192x512 .f32) :=
  [⟨Rect.unit (k0_off1 i) ![1, 192, 512] (k0_off1_inb i), shapeCast S1x192x512 (tileV arg6 harg6 x5 x (rowRead arg7 harg7 x6) (rowRead arg8 harg8 x7)) shapeCasts_S192x512_S1x192x512⟩]

/-- Tile `n` as the last point loads it, after its own tile's store. -/
def tRead (n : Nat) (hn : n < 12) : FVec F S1x192x512 .f32 :=
  View.readAt (Elt F) arg19.view (Rect.unit (s := S12x192x512) ![n, 0, 0] S1x192x512.size (inbT n hn)).toLoadRect
    (arg19.view.writes (Elt F) (harg19.unread xs3) (tileL i arg6 harg6 arg7 harg7 arg8 harg8 x5 x6 x7 (xRead arg16 harg16 xs0)))
/-- Tile `n` of the second layer's weights. -/
def wRead (n : Nat) (hn : n < 12) : FVec F S160x512 .fp8e4m3 :=
  View.readAt (Elt F) arg9.view (Rect.unit (s := S160x6144) ![0, 512 * n] S160x512.size (inbV n hn)).toLoadRect (harg9.unread x8)

/-- The first point stores its tile. -/
theorem runA_tile (c : Dev nD) (hc0 : cond0_0 i) (hc1 : ¬cond0_1 i) (xs1 xs2 : Vec F S272x128 .f32) :
    (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs1 xs2 xs3).2.val
      = tileL i arg6 harg6 arg7 harg7 arg8 harg8 x5 x6 x7 (arg16.view.readCov (kernelRunA.sl.H15_480 c arg1 harg1 arg2 harg2 arg3 harg3 arg4 harg4 arg5 harg5 arg17 arg18 harg18 x0 x1 x2 x3 x4 xs2) (Rect.unit (s := S192x5120) ![0, 0] S192x5120.size inb_S192x5120_S192x5120_0_0).toLoadRect) := by
  sl_kernel_rfl
/-- The first point stores the block of windows, a row of tokens at a time. -/
theorem runA_wins (c : Dev nD) (hc0 : cond0_0 i) (hc1 : ¬cond0_1 i) (xs1 xs2 : Vec F S272x128 .f32) :
    (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs1 xs2 xs3).1
      = kernelRunA.sl.H15_480 c arg1 harg1 arg2 harg2 arg3 harg3 arg4 harg4 arg5 harg5 arg17 arg18 harg18 x0 x1 x2 x3 x4 xs2 := rfl
/-- A middle point stores its tile. -/
theorem runB_tile (c : Dev nD) (hc0 : ¬cond0_0 i) (hc1 : ¬cond0_1 i) :
    (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).val
      = tileL i arg6 harg6 arg7 harg7 arg8 harg8 x5 x6 x7 (xRead arg16 harg16 xs0) := by
  sl_kernel_rfl
/-- The last point stores its tile. -/
theorem runC_tile (c : Dev nD) (hc0 : ¬cond0_0 i) (hc1 : cond0_1 i) :
    (kernelRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).2.2.2.2.val
      = tileL i arg6 harg6 arg7 harg7 arg8 harg8 x5 x6 x7 (xRead arg16 harg16 xs0) := by
  sl_kernel_rfl

/-- The last point stores the hidden layer's scales. -/
theorem runC_hs (c : Dev nD) (hc0 : ¬cond0_0 i) (hc1 : cond0_1 i) :
    (kernelRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).2.2.2.1
      = scaleL (powPos (exM (hidMax (tRead i arg6 harg6 arg7 harg7 arg8 harg8 arg16 harg16 arg19 harg19 x5 x6 x7 xs0 xs3)))) 12 (Nat.le_refl 12) := by
  rw [← pPos_eq, ← pMax_eq]; sl_kernel_rfl
/-- The last point stores the hidden layer's codes, a tile at a time. -/
theorem runC_hc (c : Dev nD) (hc0 : ¬cond0_0 i) (hc1 : cond0_1 i) :
    (kernelRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).2.2.1
      = codeL (tRead i arg6 harg6 arg7 harg7 arg8 harg8 arg16 harg16 arg19 harg19 x5 x6 x7 xs0 xs3) (powNeg (exM (hidMax (tRead i arg6 harg6 arg7 harg7 arg8 harg8 arg16 harg16 arg19 harg19 x5 x6 x7 xs0 xs3)))) 12 (Nat.le_refl 12) := by
  have h : k0_pay782 (k0_pay773 (pMax (tRead i arg6 harg6 arg7 harg7 arg8 harg8 arg16 harg16 arg19 harg19 x5 x6 x7 xs0 xs3))) (pFld (pMax (tRead i arg6 harg6 arg7 harg7 arg8 harg8 arg16 harg16 arg19 harg19 x5 x6 x7 xs0 xs3))) (pWrd (pMax (tRead i arg6 harg6 arg7 harg7 arg8 harg8 arg16 harg16 arg19 harg19 x5 x6 x7 xs0 xs3))) ((tRead i arg6 harg6 arg7 harg7 arg8 harg8 arg16 harg16 arg19 harg19 x5 x6 x7 xs0 xs3) 0 (by decide)) = codeOf (pInv (pMax (tRead i arg6 harg6 arg7 harg7 arg8 harg8 arg16 harg16 arg19 harg19 x5 x6 x7 xs0 xs3))) ((tRead i arg6 harg6 arg7 harg7 arg8 harg8 arg16 harg16 arg19 harg19 x5 x6 x7 xs0 xs3) 0 (by decide)) := pay782 ..
  rw [← pInv_eq, ← pMax_eq]
  simp only [codeL]
  rw [← h]
  sl_kernel_rfl
/-- The last point stores the outputs' codes. -/
theorem runC_ck (c : Dev nD) (hc0 : ¬cond0_0 i) (hc1 : cond0_1 i) :
    (kernelRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).1
      = [⟨Rect.unit (s := S4x3x16x160) ![0, 0, 0, 0] S4x3x16x160.size inb_S4x3x16x160_S4x3x16x160_0_0_0_0, outCode (outV (tRead i arg6 harg6 arg7 harg7 arg8 harg8 arg16 harg16 arg19 harg19 x5 x6 x7 xs0 xs3) (wRead arg9 harg9 x8) (rowRead2 arg10 harg10 x9) (rowRead2 arg11 harg11 x10)) (powNeg (exM (outMax (outV (tRead i arg6 harg6 arg7 harg7 arg8 harg8 arg16 harg16 arg19 harg19 x5 x6 x7 xs0 xs3) (wRead arg9 harg9 x8) (rowRead2 arg10 harg10 x9) (rowRead2 arg11 harg11 x10)))))⟩] := by
  unfold outV
  rw [← pExp_eq, ← pOut_eq, ← pMax_eq, ← pay825]; sl_kernel_rfl
/-- The last point stores the outputs' scales. -/
theorem runC_cks (c : Dev nD) (hc0 : ¬cond0_0 i) (hc1 : cond0_1 i) :
    (kernelRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).2.1
      = scaleL (powPos (exM (outMax (outV (tRead i arg6 harg6 arg7 harg7 arg8 harg8 arg16 harg16 arg19 harg19 x5 x6 x7 xs0 xs3) (wRead arg9 harg9 x8) (rowRead2 arg10 harg10 x9) (rowRead2 arg11 harg11 x10))))) 12 (Nat.le_refl 12) := by
  unfold outV
  rw [← pExp_eq, ← pMax_eq, ← pay826]; sl_kernel_rfl

end Found

end Cert.KernelIdeal.Runs

end
-- ==== Proof.IdealBuild.lean ====
/- The pieces the first point stores into the block of windows, as one list by group and slot. -/
module

public import proofs.«01_k».proof.Proof.IdealRunA

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces

variable (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole)
  (arg17 arg18 : Memref sig .tc .vmem S272x128 .f32) (harg18 : arg18.IsWhole)
  (x0 : Vec F S4x3x160x256 .fp8e4m3) (x1 : Vec F S3x4x256 .f32) (x2 : Vec F S4x3x16x160 .fp8e4m3) (x3 : Vec F S3x4x16 .f32) (x4 : Vec F S32x160 .f32) (xs2 : Vec F S272x128 .f32)

/-- The rectangle is inside its buffer. -/
theorem inbK (g : Nat) (hg : g < 12) : ∀ a, (![g / 3, g % 3, 0, 0] : Fin 4 → Nat) a + S1x1x160x256.size a ≤ S4x3x160x256.size a := by
  intro a; fin_cases a <;> simp [S1x1x160x256, S4x3x160x256] <;> omega
/-- The rectangle is inside its buffer. -/
theorem inbS (g : Nat) (hg : g < 12) : ∀ a, (![g % 3, g / 3, 0] : Fin 3 → Nat) a + S1x1x256.size a ≤ S3x4x256.size a := by
  intro a; fin_cases a <;> simp [S1x1x256, S3x4x256] <;> omega
/-- The rectangle is inside its buffer. -/
theorem inbP (g : Nat) (hg : g < 12) : ∀ a, (![g / 3, g % 3, 0, 0] : Fin 4 → Nat) a + S1x1x16x160.size a ≤ S4x3x16x160.size a := by
  intro a; fin_cases a <;> simp [S1x1x16x160, S4x3x16x160] <;> omega
/-- The rectangle is inside its buffer. -/
theorem inbQ (g : Nat) (hg : g < 12) : ∀ a, (![g % 3, g / 3, 0] : Fin 3 → Nat) a + S1x1x16.size a ≤ S3x4x16.size a := by
  intro a; fin_cases a <;> simp [S1x1x16, S3x4x16] <;> omega
/-- The rectangle is inside its buffer. -/
theorem inbX (g j : Nat) (hg : g < 12) (hj : j < 40) : ∀ a, (![16 * g, 128 * j] : Fin 2 → Nat) a + S16x128.size a ≤ S192x5120.size a := by
  intro a; fin_cases a <;> simp [S16x128, S192x5120] <;> omega
/-- The rectangle is inside its buffer. -/
theorem inbW (j : Nat) (hj : j < 32) : ∀ a, S16x128.size a = 0 ∨ (![j, 0] : Fin 2 → Nat) a + (![16, 1] : Fin 2 → Nat) a * (S16x128.size a - 1) < S272x128.size a := by
  intro a; right; fin_cases a <;> simp [S16x128, S272x128] <;> omega
/-- The rectangle is inside its buffer. -/
theorem inbB (j : Nat) (hj : j < 32) : ∀ a, (![j, 0] : Fin 2 → Nat) a + S1x128.size a ≤ S32x160.size a := by
  intro a; fin_cases a <;> simp [S1x128, S32x160] <;> omega
/-- The rectangle is inside its buffer. -/
theorem inbC (j : Nat) (hj : j < 32) : ∀ a, (![j, 128] : Fin 2 → Nat) a + S1x32.size a ≤ S32x160.size a := by
  intro a; fin_cases a <;> simp [S1x32, S32x160] <;> omega

/-- Group `g`'s 256 new tokens, codes times scales, a token a row. -/
def gTok (g : Nat) (hg : g < 12) : FVec F S256x160 .f32 :=
  k0_pay3 (View.readAt (Elt F) arg1.view (Rect.unit (s := S4x3x160x256) ![g / 3, g % 3, 0, 0] S1x1x160x256.size (inbK g hg)).toLoadRect (harg1.unread x0))
    (View.readAt (Elt F) arg2.view (Rect.unit (s := S3x4x256) ![g % 3, g / 3, 0] S1x1x256.size (inbS g hg)).toLoadRect (harg2.unread x1))
/-- Group `g`'s sixteen tokens of the block before. -/
def gPrev (g : Nat) (hg : g < 12) : FVec F S16x160 .f32 :=
  k0_pay4 (View.readAt (Elt F) arg3.view (Rect.unit (s := S4x3x16x160) ![g / 3, g % 3, 0, 0] S1x1x16x160.size (inbP g hg)).toLoadRect (harg3.unread x2))
    (View.readAt (Elt F) arg4.view (Rect.unit (s := S3x4x16) ![g % 3, g / 3, 0] S1x1x16.size (inbQ g hg)).toLoadRect (harg4.unread x3))

/-- The stores into the scratch of the tokens' first 128 features, the last group first. -/
def tokL : (n : Nat) → n ≤ 12 → List (View.Piece (Elt F) S272x128 .f32)
  | 0, _ => []
  | n + 1, h =>
    ⟨Rect.unit ![16, 0] S256x128.size inb_S272x128_S256x128_16_0,
      shapeCast S256x128 (extractStridedSlice S256x128 ![0, 0] (gTok arg1 harg1 arg2 harg2 x0 x1 n h) slices_S256x160_o0_0_S256x128) shapeCasts_S256x128_S256x128⟩ ::
    ⟨Rect.unit ![0, 0] S16x128.size inb_S272x128_S16x128_0_0,
      shapeCast S16x128 (extractStridedSlice S16x128 ![0, 0] (gPrev arg3 harg3 arg4 harg4 x2 x3 n h) slices_S16x160_o0_0_S16x128) shapeCasts_S16x128_S16x128⟩ ::
    tokL n (Nat.le_of_succ_le h)
/-- The stores into the scratch of the tokens' last 32 features, the last group first. -/
def remL : (n : Nat) → n ≤ 12 → List (View.Piece (Elt F) S272x128 .f32)
  | 0, _ => []
  | n + 1, h =>
    ⟨Rect.unit ![16, 0] S256x32.size inb_S272x128_S256x32_16_0,
      shapeCast S256x32 (extractStridedSlice S256x32 ![0, 128] (gTok arg1 harg1 arg2 harg2 x0 x1 n h) slices_S256x160_o0_128_S256x32) shapeCasts_S256x32_S256x32⟩ ::
    ⟨Rect.unit ![0, 0] S16x32.size inb_S272x128_S16x32_0_0,
      shapeCast S16x32 (extractStridedSlice S16x32 ![0, 128] (gPrev arg3 harg3 arg4 harg4 x2 x3 n h) slices_S16x160_o0_128_S16x32) shapeCasts_S16x32_S16x32⟩ ::
    remL n (Nat.le_of_succ_le h)

/-- Group `g`, token `j` of each window: the first 128 features, with the position's row added. -/
def mainPay (g : Nat) (hg : g < 12) (j : Nat) (hj : j < 32) : FVec F S16x128 .bf16 :=
  shapeCast S16x128 (truncf .bf16 (addf
    (arg17.view.readCov (tokL arg1 harg1 arg2 harg2 arg3 harg3 arg4 harg4 x0 x1 x2 x3 (g + 1) hg)
      { off := ![j, 0], size := S16x128.size, stride := ![16, 1], inb := inbW j hj })
    (broadcastTo S16x128 (View.readAt (Elt F) arg5.view (Rect.unit (s := S32x160) ![j, 0] S1x128.size (inbB j hj)).toLoadRect (harg5.unread x4)) broadcasts_S1x128_S16x128))
    bitsLt_bf16_f32) shapeCasts_S16x128_S16x128

/-- Group `g`, token `j` of each window: the last 32 features, with the position's row added. -/
def remPart (g : Nat) (hg : g < 12) (j : Nat) (hj : j < 32) : FVec F S16x32 .f32 :=
  addf (extractStridedSlice S16x32 ![0, 0]
    (View.readAt (Elt F) arg18.view { off := ![j, 0], size := S16x128.size, stride := ![16, 1], inb := inbW j hj }
      (arg18.view.writes (Elt F) (harg18.unread xs2) (remL arg1 harg1 arg2 harg2 arg3 harg3 arg4 harg4 x0 x1 x2 x3 (g + 1) hg)))
    slices_S16x128_o0_0_S16x32)
    (broadcastTo S16x32 (View.readAt (Elt F) arg5.view (Rect.unit (s := S32x160) ![j, 128] S1x32.size (inbC j hj)).toLoadRect (harg5.unread x4)) broadcasts_S1x32_S16x32)

/-- Group `g`, tokens `4 q … 4 q + 3` of each window: their last 32 features side by side. -/
def remPay (g : Nat) (hg : g < 12) (q : Nat) (hq : q < 8) : FVec F S16x128 .bf16 :=
  shapeCast S16x128 (truncf .bf16 (concatenate S16x128 1
    [⟨S16x32, remPart arg1 harg1 arg2 harg2 arg3 harg3 arg4 harg4 arg5 harg5 arg18 harg18 x0 x1 x2 x3 x4 xs2 g hg (4 * q) (by omega)⟩,
     ⟨S16x32, remPart arg1 harg1 arg2 harg2 arg3 harg3 arg4 harg4 arg5 harg5 arg18 harg18 x0 x1 x2 x3 x4 xs2 g hg (4 * q + 1) (by omega)⟩,
     ⟨S16x32, remPart arg1 harg1 arg2 harg2 arg3 harg3 arg4 harg4 arg5 harg5 arg18 harg18 x0 x1 x2 x3 x4 xs2 g hg (4 * q + 2) (by omega)⟩,
     ⟨S16x32, remPart arg1 harg1 arg2 harg2 arg3 harg3 arg4 harg4 arg5 harg5 arg18 harg18 x0 x1 x2 x3 x4 xs2 g hg (4 * q + 3) (by omega)⟩]
    concatenates_S16x32_S16x32_S16x32_S16x32_S16x128_d1) bitsLt_bf16_f32) shapeCasts_S16x128_S16x128

/-- Group `g`'s first `n` stores of tokens' first 128 features, the last first. -/
def mainL (g : Nat) (hg : g < 12) : (n : Nat) → n ≤ 32 → List (View.Piece (Elt F) S192x5120 .bf16)
  | 0, _ => []
  | n + 1, h => ⟨Rect.unit ![16 * g, 128 * n] S16x128.size (inbX g n hg (by omega)),
      mainPay arg1 harg1 arg2 harg2 arg3 harg3 arg4 harg4 arg5 harg5 arg17 x0 x1 x2 x3 x4 g hg n h⟩ :: mainL g hg n (Nat.le_of_succ_le h)
/-- Group `g`'s first `n` stores of tokens' last 32 features, the last first. -/
def sideL (g : Nat) (hg : g < 12) : (n : Nat) → n ≤ 8 → List (View.Piece (Elt F) S192x5120 .bf16)
  | 0, _ => []
  | n + 1, h => ⟨Rect.unit ![16 * g, 128 * (32 + n)] S16x128.size (inbX g (32 + n) hg (by omega)),
      remPay arg1 harg1 arg2 harg2 arg3 harg3 arg4 harg4 arg5 harg5 arg18 harg18 x0 x1 x2 x3 x4 xs2 g hg n h⟩ :: sideL g hg n (Nat.le_of_succ_le h)
/-- The stores of the first `n` groups into the block of windows, the last first. -/
def xL : (n : Nat) → n ≤ 12 → List (View.Piece (Elt F) S192x5120 .bf16)
  | 0, _ => []
  | n + 1, h =>
    sideL arg1 harg1 arg2 harg2 arg3 harg3 arg4 harg4 arg5 harg5 arg18 harg18 x0 x1 x2 x3 x4 xs2 n h 8 (Nat.le_refl 8) ++
      (mainL arg1 harg1 arg2 harg2 arg3 harg3 arg4 harg4 arg5 harg5 arg17 x0 x1 x2 x3 x4 n h 32 (Nat.le_refl 32) ++ xL n (Nat.le_of_succ_le h))

/-- The pieces the run found are this list. -/
theorem xL_eq (c : Dev nD) : kernelRunA.sl.H15_480 c arg1 harg1 arg2 harg2 arg3 harg3 arg4 harg4 arg5 harg5 arg17 arg18 harg18 x0 x1 x2 x3 x4 xs2
    = xL arg1 harg1 arg2 harg2 arg3 harg3 arg4 harg4 arg5 harg5 arg17 arg18 harg18 x0 x1 x2 x3 x4 xs2 12 (Nat.le_refl 12) := by
  sl_kernel_rfl

end Pieces

end Cert.KernelIdeal.Runs

end
-- ==== Proof.IdealWindows.lean ====
/- The block of windows the first point leaves in scratch, entry by entry, at the ideal operations. -/
module

public import proofs.«01_k».proof.Proof.IdealBuild
public import Idealize.ShloMosaic.Lib.Pointwise
public import Idealize.ShloMosaic.Lib.WritesUnit

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A sum that keeps the one term whose index word is `r`'s is that term. -/
theorem sum_diag {n : Nat} (hn : n ≤ 2 ^ 32) (r : Fin n) (f : Fin n → EReal) :
    (∑ x : Fin n, Scalar.select (IntOp.cmpi CmpIPredicate.eq (BitVec.ofNat 32 r.val) (BitVec.ofNat 32 x.val)) (f x) 0) = f r := by
  rw [Finset.sum_eq_single r]
  · simp [Scalar.select, IntOp.cmpi]
  · intro x _ hx
    have : BitVec.ofNat 32 r.val ≠ BitVec.ofNat 32 x.val := by
      intro h
      have h' := congrArg BitVec.toNat h
      simp only [BitVec.toNat_ofNat] at h'
      rw [Nat.mod_eq_of_lt (by omega), Nat.mod_eq_of_lt (by omega)] at h'
      exact hx (Fin.ext h'.symm)
    rw [show IntOp.cmpi CmpIPredicate.eq (BitVec.ofNat 32 r.val) (BitVec.ofNat 32 x.val) = 0#1 by
      simp only [IntOp.cmpi, beq_eq_false_iff_ne.mpr this]
      rfl]
    rfl
  · intro h; exact absurd (Finset.mem_univ r) h

/-- The same with the words the other way round. -/
theorem sum_diag' {n : Nat} (hn : n ≤ 2 ^ 32) (r : Fin n) (f : Fin n → EReal) :
    (∑ x : Fin n, Scalar.select (IntOp.cmpi CmpIPredicate.eq (BitVec.ofNat 32 x.val) (BitVec.ofNat 32 r.val)) (f x) 0) = f r := by
  rw [← sum_diag hn r f]
  refine Finset.sum_congr rfl fun x _ => ?_
  simp only [IntOp.cmpi]
  rw [BEq.comm]

section Windows

variable (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole)
  (arg17 arg18 : Memref sig .tc .vmem S272x128 .f32) (harg18 : arg18.IsWhole)
  (x0 : Vec Ideal S4x3x160x256 .fp8e4m3) (x1 : Vec Ideal S3x4x256 .f32) (x2 : Vec Ideal S4x3x16x160 .fp8e4m3) (x3 : Vec Ideal S3x4x16 .f32) (x4 : Vec Ideal S32x160 .f32) (xs2 : Vec Ideal S272x128 .f32)

/-- Token `r` of group `g` (sixteen of the block before, then the 256 new ones), feature `d`: code times scale. -/
def tokAt (g : Fin 12) (r : Fin 272) (d : Fin 160) : EReal :=
  if h : r.val < 16 then
    x2 (ix4 (⟨g.val / 3, by omega⟩ : Fin 4) (⟨g.val % 3, by omega⟩ : Fin 3) (⟨r.val, h⟩ : Fin 16) d) * x3 (ix3 (⟨g.val % 3, by omega⟩ : Fin 3) (⟨g.val / 3, by omega⟩ : Fin 4) (⟨r.val, h⟩ : Fin 16))
  else
    x0 (ix4 (⟨g.val / 3, by omega⟩ : Fin 4) (⟨g.val % 3, by omega⟩ : Fin 3) d (⟨r.val - 16, by omega⟩ : Fin 256)) * x1 (ix3 (⟨g.val % 3, by omega⟩ : Fin 3) (⟨g.val / 3, by omega⟩ : Fin 4) (⟨r.val - 16, by omega⟩ : Fin 256))

/-- The token of a window that column `k` of the block of windows belongs to. -/
def colTok (k : Fin 5120) : Fin 32 := ⟨if k.val < 4096 then k.val / 128 else (k.val - 4096) / 128 * 4 + k.val % 128 / 32, by split <;> omega⟩
/-- The feature column `k` of the block of windows holds. -/
def colFeat (k : Fin 5120) : Fin 160 := ⟨if k.val < 4096 then k.val % 128 else 128 + k.val % 32, by split <;> omega⟩

/-- The block of windows: a row a window, its 32 tokens' first 128 features side by side and then their last 32, with the
    positions' rows added. -/
def winAt (i : Fin 192) (k : Fin 5120) : EReal :=
  tokAt x0 x1 x2 x3 (⟨i.val / 16, by omega⟩ : Fin 12) (⟨i.val % 16 * 16 + (colTok k).val, by omega⟩ : Fin 272) (colFeat k) + x4 (ix2 (colTok k) (colFeat k))

/-- A new token of the group, read. -/
theorem gTok_apply (g : Nat) (hg : g < 12) (r : Fin 256) (d : Fin 160) :
    gTok arg1 harg1 arg2 harg2 x0 x1 g hg (ix2 r d) = tokAt x0 x1 x2 x3 (⟨g, hg⟩ : Fin 12) (⟨r.val + 16, by omega⟩ : Fin 272) d := by
  unfold gTok tokAt
  simp only [View.readAt_eq_ld, harg1.read_unread, harg2.read_unread]
  pointwise [k0_pay3]
  rw [dif_neg (by omega)]
  simp only [Nat.add_sub_cancel]

/-- A token of the block before, read. -/
theorem gPrev_apply (g : Nat) (hg : g < 12) (r : Fin 16) (d : Fin 160) :
    gPrev arg3 harg3 arg4 harg4 x2 x3 g hg (ix2 r d) = tokAt x0 x1 x2 x3 (⟨g, hg⟩ : Fin 12) (⟨r.val, by omega⟩ : Fin 272) d := by
  unfold gPrev tokAt
  simp only [View.readAt_eq_ld, harg3.read_unread, harg4.read_unread]
  pointwise [k0_pay4]
  rw [sum_diag (by norm_num) r]

/-- The scratch of first features after `n + 1` groups holds group `n`'s. -/
theorem read_tokL (f : arg17.view.ty.Contents (Elt Ideal)) (n : Nat) (h : n + 1 ≤ 12) (r : Fin 272) (d : Fin 128) :
    arg17.view.read (Elt Ideal) (arg17.view.writes (Elt Ideal) f (tokL arg1 harg1 arg2 harg2 arg3 harg3 arg4 harg4 x0 x1 x2 x3 (n + 1) h)) (ix2 r d)
      = tokAt x0 x1 x2 x3 (⟨n, h⟩ : Fin 12) r (⟨d.val, by omega⟩ : Fin 160) := by
  rw [tokL]
  by_cases hr : r.val < 16
  · rw [View.read_writes_cons_unit_of_not_mem _ _ _ _ _ _ rfl 0 (Or.inl hr),
      View.read_writes_cons_unit_of_mem _ _ _ _ _ _ (ix2 (⟨r.val, hr⟩ : Fin 16) d) rfl (by intro a; fin_cases a <;> simp [ix2])]
    pointwise
    rw [gPrev_apply arg3 harg3 arg4 harg4 x0 x1 x2 x3]
  · rw [View.read_writes_cons_unit_of_mem _ _ _ _ _ _ (ix2 (⟨r.val - 16, by omega⟩ : Fin 256) d) rfl (by intro a; fin_cases a <;> simp [ix2] <;> omega)]
    pointwise
    rw [gTok_apply arg1 harg1 arg2 harg2 x0 x1 x2 x3]
    congr 1
    exact Fin.ext (by show r.val - 16 + 16 = r.val; omega)

/-- The scratch of last features after `n + 1` groups holds group `n`'s. -/
theorem read_remL (f : arg18.view.ty.Contents (Elt Ideal)) (n : Nat) (h : n + 1 ≤ 12) (r : Fin 272) (d : Fin 128) (hd : d.val < 32) :
    arg18.view.read (Elt Ideal) (arg18.view.writes (Elt Ideal) f (remL arg1 harg1 arg2 harg2 arg3 harg3 arg4 harg4 x0 x1 x2 x3 (n + 1) h)) (ix2 r d)
      = tokAt x0 x1 x2 x3 (⟨n, h⟩ : Fin 12) r (⟨128 + d.val, by omega⟩ : Fin 160) := by
  rw [remL]
  by_cases hr : r.val < 16
  · rw [View.read_writes_cons_unit_of_not_mem _ _ _ _ _ _ rfl 0 (Or.inl hr),
      View.read_writes_cons_unit_of_mem _ _ _ _ _ _ (ix2 (⟨r.val, hr⟩ : Fin 16) (⟨d.val, hd⟩ : Fin 32)) rfl (by intro a; fin_cases a <;> simp [ix2])]
    pointwise
    rw [gPrev_apply arg3 harg3 arg4 harg4 x0 x1 x2 x3]
  · rw [View.read_writes_cons_unit_of_mem _ _ _ _ _ _ (ix2 (⟨r.val - 16, by omega⟩ : Fin 256) (⟨d.val, hd⟩ : Fin 32)) rfl (by intro a; fin_cases a <;> simp [ix2] <;> omega)]
    pointwise
    rw [gTok_apply arg1 harg1 arg2 harg2 x0 x1 x2 x3]
    congr 1
    exact Fin.ext (by show r.val - 16 + 16 = r.val; omega)

omit harg1 harg2 harg3 harg4 harg5 harg18 in
/-- A load of every sixteenth row from row `j` on, read. -/
theorem readAt_rows (v : View sig .tc .vmem S272x128 .f32) (f : v.ty.Contents (Elt Ideal)) (j : Nat) (hj : j < 32)
    (inb : ∀ a, S16x128.size a = 0 ∨ (![j, 0] : Fin 2 → Nat) a + (![16, 1] : Fin 2 → Nat) a * (S16x128.size a - 1) < S272x128.size a) (w : Fin 16) (l : Fin 128) :
    View.readAt (Elt Ideal) v { off := ![j, 0], size := ![16, 128], stride := ![16, 1], inb := inb } f (ix2 w l)
      = v.read (Elt Ideal) f (ix2 (⟨w.val * 16 + j, by omega⟩ : Fin 272) l) := by
  refine congrArg (v.read (Elt Ideal) f) (funext fun a => Fin.ext ?_)
  fin_cases a
  · show j + 16 * w.val = w.val * 16 + j; omega
  · show 0 + 1 * l.val = l.val; omega

/-- Equal coordinates name equal entries. -/
theorem ent_congr {g g' : Fin 12} {r r' : Fin 272} {d d' : Fin 160} {j j' : Fin 32} (hg : g.val = g'.val) (hr : r.val = r'.val) (hd : d.val = d'.val) (hj : j.val = j'.val) :
    tokAt x0 x1 x2 x3 g r d + x4 (ix2 j d) = tokAt x0 x1 x2 x3 g' r' d' + x4 (ix2 j' d') := by
  rw [Fin.ext hg, Fin.ext hr, Fin.ext hd, Fin.ext hj]

/-- A store of first features writes the block of windows' entries. -/
theorem mainPay_apply (g : Nat) (hg : g < 12) (j : Nat) (hj : j < 32) (w : Fin 16) (l : Fin 128) :
    mainPay arg1 harg1 arg2 harg2 arg3 harg3 arg4 harg4 arg5 harg5 arg17 x0 x1 x2 x3 x4 g hg j hj (ix2 w l)
      = winAt x0 x1 x2 x3 x4 (⟨16 * g + w.val, by omega⟩ : Fin 192) (⟨128 * j + l.val, by omega⟩ : Fin 5120) := by
  unfold mainPay winAt
  simp only [View.readCov, View.readAt_eq_ld, harg5.read_unread]
  pointwise
  rw [readAt_rows _ _ j hj, read_tokL]
  have h1 : (colTok (⟨128 * j + l.val, by omega⟩ : Fin 5120)).val = j := by
    show (if 128 * j + l.val < 4096 then (128 * j + l.val) / 128 else (128 * j + l.val - 4096) / 128 * 4 + (128 * j + l.val) % 128 / 32) = j
    rw [if_pos (by omega)]; omega
  have h2 : (colFeat (⟨128 * j + l.val, by omega⟩ : Fin 5120)).val = l.val := by
    show (if 128 * j + l.val < 4096 then (128 * j + l.val) % 128 else 128 + (128 * j + l.val) % 32) = l.val
    rw [if_pos (by omega)]; omega
  refine ent_congr x0 x1 x2 x3 x4 ?_ ?_ ?_ ?_
  · show g = (16 * g + w.val) / 16; omega
  · show w.val * 16 + j = (16 * g + w.val) % 16 * 16 + (colTok _).val; rw [h1]; omega
  · exact h2.symm
  · exact h1.symm

/-- One slot of a store of last features. -/
theorem remPart_apply (g : Nat) (hg : g < 12) (j : Nat) (hj : j < 32) (w : Fin 16) (l : Fin 32) :
    remPart arg1 harg1 arg2 harg2 arg3 harg3 arg4 harg4 arg5 harg5 arg18 harg18 x0 x1 x2 x3 x4 xs2 g hg j hj (ix2 w l)
      = tokAt x0 x1 x2 x3 (⟨g, hg⟩ : Fin 12) (⟨w.val * 16 + j, by omega⟩ : Fin 272) (⟨128 + l.val, by omega⟩ : Fin 160) + x4 (ix2 (⟨j, hj⟩ : Fin 32) (⟨128 + l.val, by omega⟩ : Fin 160)) := by
  unfold remPart
  simp only [View.readAt_eq_ld, harg5.read_unread]
  pointwise
  rw [readAt_rows _ _ j hj, read_remL _ _ _ _ _ _ _ _ _ _ _ _ _ _ _ _ _ _ l.isLt]

/-- A store of last features writes the block of windows' entries. -/
theorem remPay_apply (g : Nat) (hg : g < 12) (q : Nat) (hq : q < 8) (w : Fin 16) (l : Fin 128) :
    remPay arg1 harg1 arg2 harg2 arg3 harg3 arg4 harg4 arg5 harg5 arg18 harg18 x0 x1 x2 x3 x4 xs2 g hg q hq (ix2 w l)
      = winAt x0 x1 x2 x3 x4 (⟨16 * g + w.val, by omega⟩ : Fin 192) (⟨128 * (32 + q) + l.val, by omega⟩ : Fin 5120) := by
  unfold remPay winAt
  pointwise
  simp only [remPart_apply]
  have h1 : (colTok (⟨128 * (32 + q) + l.val, by omega⟩ : Fin 5120)).val = 4 * q + l.val / 32 := by
    show (if 128 * (32 + q) + l.val < 4096 then (128 * (32 + q) + l.val) / 128 else (128 * (32 + q) + l.val - 4096) / 128 * 4 + (128 * (32 + q) + l.val) % 128 / 32) = _
    rw [if_neg (by omega)]; omega
  have h2 : (colFeat (⟨128 * (32 + q) + l.val, by omega⟩ : Fin 5120)).val = 128 + l.val % 32 := by
    show (if 128 * (32 + q) + l.val < 4096 then (128 * (32 + q) + l.val) % 128 else 128 + (128 * (32 + q) + l.val) % 32) = _
    rw [if_neg (by omega)]; omega
  split_ifs <;> refine ent_congr x0 x1 x2 x3 x4 ?_ ?_ ?_ ?_ <;> (try rw [h1]) <;> (try rw [h2]) <;> (try simp only [h1]) <;> (try dsimp only) <;> omega

/-- Every piece writes the block of windows' entries. -/
theorem xL_agree : ∀ (n : Nat) (h : n ≤ 12), ∀ p ∈ xL arg1 harg1 arg2 harg2 arg3 harg3 arg4 harg4 arg5 harg5 arg17 arg18 harg18 x0 x1 x2 x3 x4 xs2 n h,
    ∀ x : p.1.shape.Idx, p.2 x = (fun y : S192x5120.Idx => winAt x0 x1 x2 x3 x4 (y 0) (y 1)) (p.1.emb x)
  | 0, _, p, hp => by simp [xL] at hp
  | n + 1, h, p, hp => by
    have side : ∀ (q : Nat) (hq : q ≤ 8), ∀ p ∈ sideL arg1 harg1 arg2 harg2 arg3 harg3 arg4 harg4 arg5 harg5 arg18 harg18 x0 x1 x2 x3 x4 xs2 n h q hq,
        ∀ x : p.1.shape.Idx, p.2 x = (fun y : S192x5120.Idx => winAt x0 x1 x2 x3 x4 (y 0) (y 1)) (p.1.emb x) := by
      intro q
      induction q with
      | zero => intro hq p hp; simp [sideL] at hp
      | succ q ih =>
        intro hq p hp
        rw [sideL, List.mem_cons] at hp
        rcases hp with rfl | hp
        · intro x
          obtain ⟨w, l, rfl⟩ : ∃ (w : Fin 16) (l : Fin 128), x = ix2 w l := ⟨x 0, x 1, eq_ix2 x⟩
          refine (remPay_apply arg1 harg1 arg2 harg2 arg3 harg3 arg4 harg4 arg5 harg5 arg18 harg18 x0 x1 x2 x3 x4 xs2 n h q hq w l).trans ?_
          refine congrArg₂ (winAt x0 x1 x2 x3 x4) (Fin.ext ?_) (Fin.ext ?_)
          · show _ = 16 * n + 1 * w.val; dsimp only; omega
          · show _ = 128 * (32 + q) + 1 * l.val; dsimp only; omega
        · exact ih _ p hp
    have main : ∀ (q : Nat) (hq : q ≤ 32), ∀ p ∈ mainL arg1 harg1 arg2 harg2 arg3 harg3 arg4 harg4 arg5 harg5 arg17 x0 x1 x2 x3 x4 n h q hq,
        ∀ x : p.1.shape.Idx, p.2 x = (fun y : S192x5120.Idx => winAt x0 x1 x2 x3 x4 (y 0) (y 1)) (p.1.emb x) := by
      intro q
      induction q with
      | zero => intro hq p hp; simp [mainL] at hp
      | succ q ih =>
        intro hq p hp
        rw [mainL, List.mem_cons] at hp
        rcases hp with rfl | hp
        · intro x
          obtain ⟨w, l, rfl⟩ : ∃ (w : Fin 16) (l : Fin 128), x = ix2 w l := ⟨x 0, x 1, eq_ix2 x⟩
          refine (mainPay_apply arg1 harg1 arg2 harg2 arg3 harg3 arg4 harg4 arg5 harg5 arg17 x0 x1 x2 x3 x4 n h q hq w l).trans ?_
          refine congrArg₂ (winAt x0 x1 x2 x3 x4) (Fin.ext ?_) (Fin.ext ?_)
          · show _ = 16 * n + 1 * w.val; dsimp only; omega
          · show _ = 128 * q + 1 * l.val; dsimp only; omega
        · exact ih _ p hp
    rw [xL, List.mem_append, List.mem_append] at hp
    rcases hp with hp | hp | hp
    · exact side 8 _ p hp
    · exact main 32 _ p hp
    · exact xL_agree n _ p hp

/-- The pieces cover the block of windows. -/
theorem xL_cover (y : S192x5120.Idx) : ∃ p ∈ xL arg1 harg1 arg2 harg2 arg3 harg3 arg4 harg4 arg5 harg5 arg17 arg18 harg18 x0 x1 x2 x3 x4 xs2 12 (Nat.le_refl 12), y ∈ p.1.set :=
  View.cover_of_tiledL _ ![16, 128] (by sl_kernel_rfl) y

/-- After the pieces the block of windows reads its entries, whatever it held. -/
theorem read_xL (v : View sig .tc .vmem S192x5120 .bf16) (f : v.ty.Contents (Elt Ideal)) :
    v.read (Elt Ideal) (v.writes (Elt Ideal) f (xL arg1 harg1 arg2 harg2 arg3 harg3 arg4 harg4 arg5 harg5 arg17 arg18 harg18 x0 x1 x2 x3 x4 xs2 12 (Nat.le_refl 12)))
      = fun y : S192x5120.Idx => winAt x0 x1 x2 x3 x4 (y 0) (y 1) :=
  funext fun y => View.read_writes_apply_of_pieces v f (fun y : S192x5120.Idx => winAt x0 x1 x2 x3 x4 (y 0) (y 1)) _ (xL_agree arg1 harg1 arg2 harg2 arg3 harg3 arg4 harg4 arg5 harg5 arg17 arg18 harg18 x0 x1 x2 x3 x4 xs2 12 _) y (xL_cover arg1 harg1 arg2 harg2 arg3 harg3 arg4 harg4 arg5 harg5 arg17 arg18 harg18 x0 x1 x2 x3 x4 xs2 y)

end Windows

end Cert.KernelIdeal.Runs

end
-- ==== Proof.IdealTile.lean ====
/- The tile of the hidden layer and the values of the last point, entry by entry, at the ideal operations. -/
module

public import proofs.«01_k».proof.Proof.IdealTail
public import proofs.«01_k».proof.Proof.IdealWindows
public import Idealize.ShloMosaic.Lib.Pointwise
public import Idealize.ShloMosaic.Lib.WritesUnit

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Weights

variable (arg6 : Memref sig .tc .vmem S32x160x512 .fp8e4m3) (harg6 : arg6.IsWhole) (x5 : Vec Ideal S32x160x512 .fp8e4m3)

/-- A list of two halves at a place in the first. -/
theorem two_left {α : Type _} {n : Nat} (f g : Fin n → α) (j : Fin n) (h : j.val < (List.ofFn f ++ List.ofFn g).length) : (List.ofFn f ++ List.ofFn g)[j.val] = f j := by
  simp [List.getElem_append]
/-- A list of two halves at a place in the second. -/
theorem two_right {α : Type _} {n : Nat} (f g : Fin n → α) (j : Fin n) (h : n + j.val < (List.ofFn f ++ List.ofFn g).length) : (List.ofFn f ++ List.ofFn g)[n + j.val] = g j := by
  simp [List.getElem_append]
/-- The piece without its axis of length one. -/
theorem drop_main (v : S1x128x512.Idx → EReal) (p : Fin 128) (c : Fin 512) : shapeCast S128x512 v shapeCasts_S1x128x512_S128x512 (ix2 p c) = v (ix3 (0 : Fin 1) p c) := by
  pointwise
/-- The piece without its axis of length one. -/
theorem drop_side (v : S1x32x512.Idx → EReal) (p : Fin 32) (c : Fin 512) : shapeCast S32x512 v shapeCasts_S1x32x512_S32x512 (ix2 p c) = v (ix3 (0 : Fin 1) p c) := by
  pointwise
/-- A piece of the first 128 features, entry by entry. -/
theorem wMain_apply (j : Fin 32) (p : Fin 128) (c : Fin 512) : wMain arg6 harg6 x5 j (ix2 p c) = x5 (ix3 j (⟨p.val, by omega⟩ : Fin 160) c) := by
  unfold wMain
  refine (drop_main _ p c).trans ?_
  simp only [View.readAt_eq_ld, harg6.read_unread]
  refine congrArg x5 (funext fun a => Fin.ext ?_)
  fin_cases a
  · show j.val + 1 * 0 = j.val; omega
  · show 0 + 1 * p.val = p.val; omega
  · show 0 + 1 * c.val = c.val; omega
/-- A piece of the last 32 features, entry by entry. -/
theorem wSide_apply (j : Fin 32) (p : Fin 32) (c : Fin 512) : wSide arg6 harg6 x5 j (ix2 p c) = x5 (ix3 j (⟨128 + p.val, by omega⟩ : Fin 160) c) := by
  unfold wSide
  refine (drop_side _ p c).trans ?_
  simp only [View.readAt_eq_ld, harg6.read_unread]
  refine congrArg x5 (funext fun a => Fin.ext ?_)
  fin_cases a
  · show j.val + 1 * 0 = j.val; omega
  · show 128 + 1 * p.val = 128 + p.val; omega
  · show 0 + 1 * c.val = c.val; omega

/-- There are 64 pieces. -/
theorem wL_length : (wL arg6 harg6 x5).length = 64 := by simp [wL]
/-- The rows before a piece. -/
theorem wL_pre (k : Fin 64) : ((((wL arg6 harg6 x5).take k.val).map (·.1)).map fun s => if h : s.rank = S5120x512.rank then s.size ((0 : Fin S5120x512.rank).cast h.symm) else 0).sum
    = if k.val < 32 then 128 * k.val else 4096 + 32 * (k.val - 32) := by
  rw [List.map_take, wL_shapes]
  revert k
  decide +kernel
/-- The first 32 pieces are those of the first 128 features. -/
theorem wL_main (j : Fin 32) (h : j.val < (wL arg6 harg6 x5).length) : (wL arg6 harg6 x5)[j.val] = ⟨S128x512, wMain arg6 harg6 x5 j⟩ := by
  exact two_left _ _ j _
/-- The other 32 pieces are those of the last 32 features. -/
theorem wL_side (j : Fin 32) (h : 32 + j.val < (wL arg6 harg6 x5).length) : (wL arg6 harg6 x5)[32 + j.val] = ⟨S32x512, wSide arg6 harg6 x5 j⟩ := by
  exact two_right _ _ j _

/-- Row `k` of the weights as pieced together is the weights of column `k`'s token and feature. -/
theorem wCat_apply (k : Fin 5120) (c : Fin 512) : concatenate S5120x512 0 (wL arg6 harg6 x5) (wL_cat arg6 harg6 x5) (ix2 k c) = x5 (ix3 (colTok k) (colFeat k) c) := by
  have hl := wL_length arg6 harg6 x5
  by_cases h : k.val < 4096
  · have hj : k.val / 128 < 32 := by omega
    refine (concatenate_apply_piece (t := S5120x512) 0 (wL arg6 harg6 x5) (wL_cat arg6 harg6 x5) (ix2 k c) (k.val / 128) (by omega) S128x512 _ (wL_main arg6 harg6 x5 ⟨k.val / 128, hj⟩ (by rw [hl]; show k.val / 128 < 64; omega)) rfl (128 * (k.val / 128)) ?_
      (ix2 (⟨k.val % 128, by omega⟩ : Fin 128) c) ?_ ?_).trans ((wMain_apply ..).trans ?_)
    · exact (wL_pre arg6 harg6 x5 ⟨k.val / 128, by omega⟩).trans (if_pos hj)
    · intro b hb
      fin_cases b
      · exact absurd rfl hb
      · rfl
    · show 128 * (k.val / 128) + k.val % 128 = k.val; omega
    · congr 2
      · exact Fin.ext (show k.val / 128 = if k.val < 4096 then k.val / 128 else _ from (if_pos h).symm)
      · exact Fin.ext (show k.val % 128 = if k.val < 4096 then k.val % 128 else _ from (if_pos h).symm)
  · have hj : (k.val - 4096) / 32 < 32 := by omega
    refine (concatenate_apply_piece (t := S5120x512) 0 (wL arg6 harg6 x5) (wL_cat arg6 harg6 x5) (ix2 k c) (32 + (k.val - 4096) / 32) (by omega) S32x512 _ (wL_side arg6 harg6 x5 ⟨(k.val - 4096) / 32, hj⟩ (by rw [hl]; show 32 + (k.val - 4096) / 32 < 64; omega)) rfl (4096 + 32 * ((k.val - 4096) / 32)) ?_
      (ix2 (⟨k.val % 32, by omega⟩ : Fin 32) c) ?_ ?_).trans ((wSide_apply ..).trans ?_)
    · refine (wL_pre arg6 harg6 x5 ⟨32 + (k.val - 4096) / 32, by omega⟩).trans ((if_neg (by show ¬ 32 + (k.val - 4096) / 32 < 32; omega)).trans ?_)
      show 4096 + 32 * (32 + (k.val - 4096) / 32 - 32) = _; omega
    · intro b hb
      fin_cases b
      · exact absurd rfl hb
      · rfl
    · show 4096 + 32 * ((k.val - 4096) / 32) + k.val % 32 = k.val; omega
    · congr 2
      · exact Fin.ext (show (k.val - 4096) / 32 = if k.val < 4096 then _ else (k.val - 4096) / 128 * 4 + k.val % 128 / 32 by rw [if_neg h]; omega)
      · exact Fin.ext (show 128 + k.val % 32 = if k.val < 4096 then _ else 128 + k.val % 32 from (if_neg h).symm)

/-- The activation. -/
def actE (u : EReal) : EReal := Ideal.ofBits FTy.f32 1056964608#32 * u * (1 + FloatOps.erf (F := Ideal) (φ := .f32) (u * Ideal.ofBits FTy.f32 1060439283#32))

/-- A tile's entry: the window's row times the column's weights, scaled and shifted, through the activation. -/
theorem tileV_apply (x : FVec Ideal S192x5120 .bf16) (s b : FVec Ideal S1x512 .f32) (r : Fin 192) (c : Fin 512) :
    tileV arg6 harg6 x5 x s b (ix2 r c) = actE ((∑ k : Fin 5120, x (ix2 r k) * x5 (ix3 (colTok k) (colFeat k) c)) * s (ix2 (0 : Fin 1) c) + b (ix2 (0 : Fin 1) c)) := by
  rw [← Finset.sum_congr rfl fun k _ => congrArg (x (ix2 r k) * ·) (wCat_apply arg6 harg6 x5 k c)]
  unfold tileV actE
  pointwise

end Weights
end Cert.KernelIdeal.Runs
end
-- ==== Proof.IdealScale.lean ====
/- The exponent a row's largest magnitude gives: the search over the bits of the exponent field finds the count of powers
   of two at or below it, and the bit patterns of the scales are the powers of two at the exponent. -/
module

public import Idealize.ShloMosaic.Lib.Pointwise

@[expose] public section

set_option maxRecDepth 16384

noncomputable section

namespace Cert.Scale

open Idealize.ShloMosaic

/-- The exponent as the count of powers of two at or below the value, less 126; zero outside the normal range. -/
def refE (a : EReal) : EReal :=
  Scalar.select (IntOp.andi (BitVec.ofBool (decide (Ideal.ofBits FTy.f32 8388608#32 ≤ a))) (BitVec.ofBool (decide (a < Ideal.ofBits FTy.f32 2071986176#32))))
    ((∑ x : Fin 246, if FloatOps.exp2 (F := Ideal) (φ := .f32) (FloatOps.sitofp (F := Ideal) FTy.f32 (BitVec.ofNat 32 x.val) - Ideal.ofBits FTy.f32 1123811328#32) ≤ a then (1 : EReal) else 0)
      - Ideal.ofBits FTy.f32 1123811328#32) 0

/-- One round of the search on one value. -/
def stepS (a : EReal) (e off bit : BitVec 32) : BitVec 32 :=
  if Ideal.ofBits FTy.f32 (IntOp.shli ArithUnit.vector (IntOp.addi (IntOp.addi e off) 127#32) 23#32) ≤ a then IntOp.addi e bit else e
/-- The field the eight rounds find. -/
def fieldS (a : EReal) : BitVec 32 :=
  stepS a (stepS a (stepS a (stepS a (stepS a (stepS a (stepS a (stepS a 0#32 1#32 128#32) 4294967233#32 64#32) 4294967201#32 32#32)
    4294967185#32 16#32) 4294967177#32 8#32) 4294967173#32 4#32) 4294967171#32 2#32) 4294967170#32 1#32
/-- The field, 255 from the 120th power of two on. -/
def fieldCS (a : EReal) : BitVec 32 := if a < Ideal.ofBits FTy.f32 2071986176#32 then fieldS a else 255#32
/-- The exponent of a field. -/
def expoFS (f : BitVec 32) : BitVec 32 :=
  Scalar.select (IntOp.ori (IntOp.cmpi CmpIPredicate.eq f 0#32) (IntOp.cmpi CmpIPredicate.eq f 255#32)) (0#32) (IntOp.subi f 126#32)
/-- The exponent the search gives. -/
def expoS (a : EReal) : BitVec 32 := expoFS (fieldCS a)

/-- The value whose exponent field is `f`, its other bits zero. -/
def pat (f : Nat) : EReal := Ideal.ofBits FTy.f32 (BitVec.ofNat 32 f <<< 23)

/-- The sign, the field and the fraction of a pattern. -/
theorem pat_bits : ∀ f : Fin 256, ((BitVec.ofNat 32 f.val <<< 23).extractLsb' 31 1 == 1#1) = false ∧ ((BitVec.ofNat 32 f.val <<< 23).extractLsb' 23 8).toNat = f.val
    ∧ ((BitVec.ofNat 32 f.val <<< 23).extractLsb' 0 23).toNat = 0 := by decide +kernel

/-- A pattern with a field from 1 to 254 and its other bits zero. -/
theorem ieee_power (w : BitVec 32) (f : Nat) (hs : (w.extractLsb' 31 1 == 1#1) = false) (he : (w.extractLsb' 23 8).toNat = f) (hf : (w.extractLsb' 0 23).toNat = 0)
    (h1 : 1 ≤ f) (h2 : f ≤ 254) : Ideal.ieee 8 23 w = (((2 : ℝ) ^ ((f : ℤ) - 127) : ℝ) : EReal) := by
  unfold Ideal.ieee
  simp only [hs, he, hf, show (8 + 23 : Nat) = 31 from rfl]
  rw [if_neg (by norm_num; omega), if_neg (by omega)]
  congr 1
  simp only [Bool.false_eq_true, if_false, one_mul, Nat.add_zero]
  push_cast
  rw [show (8388608 : ℝ) = (2 : ℝ) ^ (23 : ℤ) by norm_num, ← zpow_add₀ (by norm_num : (2 : ℝ) ≠ 0)]
  congr 1
  ring
/-- A pattern with field 255 and its other bits zero stands for infinity. -/
theorem ieee_top (w : BitVec 32) (hs : (w.extractLsb' 31 1 == 1#1) = false) (he : (w.extractLsb' 23 8).toNat = 255) (hf : (w.extractLsb' 0 23).toNat = 0) :
    Ideal.ieee 8 23 w = ⊤ := by
  unfold Ideal.ieee
  simp only [hs, he, hf, show (8 + 23 : Nat) = 31 from rfl]
  norm_num

/-- Fields 1 to 254 stand for the powers of two. -/
theorem pat_eq (f : Nat) (h1 : 1 ≤ f) (h2 : f ≤ 254) : pat f = (((2 : ℝ) ^ ((f : ℤ) - 127) : ℝ) : EReal) :=
  have h := pat_bits ⟨f, by omega⟩
  ieee_power _ f h.1 h.2.1 h.2.2 h1 h2

/-- Field 255 stands for infinity. -/
theorem pat_top : pat 255 = ⊤ :=
  ieee_top (BitVec.ofNat 32 255 <<< 23) (pat_bits 255).1 (pat_bits 255).2.1 (pat_bits 255).2.2

/-- The values grow with the field. -/
theorem pat_mono (f g : Nat) (h1 : 1 ≤ f) (hfg : f ≤ g) (h2 : g ≤ 255) : pat f ≤ pat g := by
  rcases Nat.lt_or_ge g 255 with h | h
  · rw [pat_eq f h1 (by omega), pat_eq g (by omega) (by omega), EReal.coe_le_coe_iff]
    exact zpow_le_zpow_right₀ (by norm_num) (by omega)
  · rw [show g = 255 by omega, pat_top]; exact le_top

/-- A value below the 120th power of two has a field: the powers at or below it are those of the fields up to it. -/
theorem exists_level (a : EReal) (ha : a < pat 247) : ∃ n : Nat, n ≤ 246 ∧ ∀ f : Nat, 1 ≤ f → f ≤ 255 → (pat f ≤ a ↔ f ≤ n) := by
  classical
  refine ⟨Nat.findGreatest (fun f => pat f ≤ a) 246, Nat.findGreatest_le _, fun f h1 h2 => ⟨fun h => ?_, fun h => ?_⟩⟩
  · rcases Nat.lt_or_ge 246 f with h' | h'
    · exact absurd (lt_of_le_of_lt ((pat_mono 247 f (by omega) (by omega) h2).trans h) ha) (lt_irrefl _)
    · exact Nat.le_findGreatest h' h
  · have h0 : Nat.findGreatest (fun f => pat f ≤ a) 246 ≠ 0 := by omega
    have := Nat.findGreatest_of_ne_zero (P := fun f => pat f ≤ a) (n := 246) rfl h0
    exact (pat_mono f _ h1 h ((Nat.findGreatest_le _).trans (by omega))).trans this

/-- The words of a round, for every field found so far. -/
def roundOff (j : Fin 8) : BitVec 32 := BitVec.ofNat 32 (2 ^ 32 + 2 ^ j.val - 127)
/-- The bit a round settles. -/
def roundBit (j : Fin 8) : BitVec 32 := BitVec.ofNat 32 (2 ^ j.val)

/-- What a round does to the words, for every field found so far. -/
theorem round_words : ∀ (j : Fin 8) (n : Fin 256),
    IntOp.shli ArithUnit.vector (IntOp.addi (IntOp.addi (BitVec.ofNat 32 (n.val / 2 ^ (j.val + 1) * 2 ^ (j.val + 1))) (roundOff j)) 127#32) 23#32
        = BitVec.ofNat 32 (n.val / 2 ^ (j.val + 1) * 2 ^ (j.val + 1) + 2 ^ j.val) <<< 23
      ∧ 1 ≤ n.val / 2 ^ (j.val + 1) * 2 ^ (j.val + 1) + 2 ^ j.val ∧ n.val / 2 ^ (j.val + 1) * 2 ^ (j.val + 1) + 2 ^ j.val ≤ 255
      ∧ (n.val / 2 ^ (j.val + 1) * 2 ^ (j.val + 1) + 2 ^ j.val ≤ n.val → IntOp.addi (BitVec.ofNat 32 (n.val / 2 ^ (j.val + 1) * 2 ^ (j.val + 1))) (roundBit j) = BitVec.ofNat 32 (n.val / 2 ^ j.val * 2 ^ j.val))
      ∧ (¬ n.val / 2 ^ (j.val + 1) * 2 ^ (j.val + 1) + 2 ^ j.val ≤ n.val → n.val / 2 ^ (j.val + 1) * 2 ^ (j.val + 1) = n.val / 2 ^ j.val * 2 ^ j.val) := by
  decide +kernel

/-- A round keeps the bits found and settles its own. -/
theorem round_eq (a : EReal) (n : Nat) (hn : n ≤ 246) (h : ∀ f : Nat, 1 ≤ f → f ≤ 255 → (pat f ≤ a ↔ f ≤ n)) (j : Fin 8) (off bit : BitVec 32)
    (ho : off = roundOff j) (hb : bit = roundBit j) {e : BitVec 32} (he : e = BitVec.ofNat 32 (n / 2 ^ (j.val + 1) * 2 ^ (j.val + 1))) :
    stepS a e off bit = BitVec.ofNat 32 (n / 2 ^ j.val * 2 ^ j.val) := by
  subst ho hb he
  obtain ⟨hw, h1, h2, h3, h4⟩ := round_words j ⟨n, by omega⟩
  simp only at hw h1 h2 h3 h4
  unfold stepS
  rw [hw]
  by_cases hc : n / 2 ^ (j.val + 1) * 2 ^ (j.val + 1) + 2 ^ j.val ≤ n
  · exact (if_pos ((h _ h1 h2).2 hc)).trans (h3 hc)
  · exact (if_neg (fun h' => hc ((h _ h1 h2).1 h'))).trans (congrArg (BitVec.ofNat 32) (h4 hc))

/-- The search finds the field. -/
theorem field_eq (a : EReal) (n : Nat) (hn : n ≤ 246) (h : ∀ f : Nat, 1 ≤ f → f ≤ 255 → (pat f ≤ a ↔ f ≤ n)) : fieldS a = BitVec.ofNat 32 n := by
  have e0 : (0#32 : BitVec 32) = BitVec.ofNat 32 (n / 2 ^ 8 * 2 ^ 8) := by rw [Nat.div_eq_of_lt (by omega : n < 2 ^ 8), Nat.zero_mul]
  have e7 := round_eq a n hn h 7 _ 128#32 (show 1#32 = roundOff 7 by decide) (by decide) e0
  have e6 := round_eq a n hn h 6 _ 64#32 (show 4294967233#32 = roundOff 6 by decide) (by decide) e7
  have e5 := round_eq a n hn h 5 _ 32#32 (show 4294967201#32 = roundOff 5 by decide) (by decide) e6
  have e4 := round_eq a n hn h 4 _ 16#32 (show 4294967185#32 = roundOff 4 by decide) (by decide) e5
  have e3 := round_eq a n hn h 3 _ 8#32 (show 4294967177#32 = roundOff 3 by decide) (by decide) e4
  have e2 := round_eq a n hn h 2 _ 4#32 (show 4294967173#32 = roundOff 2 by decide) (by decide) e3
  have e1 := round_eq a n hn h 1 _ 2#32 (show 4294967171#32 = roundOff 1 by decide) (by decide) e2
  have e0' := round_eq a n hn h 0 _ 1#32 (show 4294967170#32 = roundOff 0 by decide) (by decide) e1
  refine Eq.trans e0' ?_
  simp

/-- The constant 126. -/
theorem c126 : Ideal.ofBits FTy.f32 1123811328#32 = ((126 : ℝ) : EReal) := by
  simp [Ideal.ofBits, Ideal.ieee, -EReal.coe_mul]; norm_num
/-- The constant at which the search stops is the 120th power of two. -/
theorem c247 : Ideal.ofBits FTy.f32 2071986176#32 = pat 247 := by
  unfold pat; congr 1
/-- The smallest normal value is the pattern of field 1. -/
theorem c1 : Ideal.ofBits FTy.f32 8388608#32 = pat 1 := by
  unfold pat; congr 1

/-- The power of two the reference compares with is the pattern of the next field. -/
theorem power_eq (x : Fin 246) : FloatOps.exp2 (F := Ideal) (φ := .f32) (FloatOps.sitofp (F := Ideal) FTy.f32 (BitVec.ofNat 32 x.val) - Ideal.ofBits FTy.f32 1123811328#32) = pat (x.val + 1) := by
  have hx : (BitVec.ofNat 32 x.val).toInt = (x.val : ℤ) := by
    have := x.isLt
    rw [BitVec.toInt_eq_toNat_of_lt (by rw [BitVec.toNat_ofNat]; omega), BitVec.toNat_ofNat, Nat.mod_eq_of_lt (by omega)]
  rw [c126, pat_eq _ (by omega) (by omega)]
  show Ideal.exp2 ((((BitVec.ofNat 32 x.val).toInt : ℝ) : EReal) - ((126 : ℝ) : EReal)) = _
  rw [hx, ← EReal.coe_sub, Ideal.exp2_coe]
  congr 1
  show (2 : ℝ) ^ (((x.val : ℤ) : ℝ) - 126) = _
  rw [← Real.rpow_intCast]
  congr 1
  push_cast; ring

/-- A sum of reals, taken among the extended reals. -/
theorem sum_coe {ι : Type} (s : Finset ι) (g : ι → ℝ) : (∑ i ∈ s, ((g i : ℝ) : EReal)) = ((∑ i ∈ s, g i : ℝ) : EReal) := by
  classical
  induction s using Finset.induction_on with
  | empty => rfl
  | insert i s hi ih => rw [Finset.sum_insert hi, Finset.sum_insert hi, ih, EReal.coe_add]

/-- The count is the field. -/
theorem count_eq (a : EReal) (n : Nat) (hn : n ≤ 246) (h : ∀ f : Nat, 1 ≤ f → f ≤ 255 → (pat f ≤ a ↔ f ≤ n)) :
    (∑ x : Fin 246, if FloatOps.exp2 (F := Ideal) (φ := .f32) (FloatOps.sitofp (F := Ideal) FTy.f32 (BitVec.ofNat 32 x.val) - Ideal.ofBits FTy.f32 1123811328#32) ≤ a then (1 : EReal) else 0) = ((n : ℝ) : EReal) := by
  have h1 : ∀ x : Fin 246, (if FloatOps.exp2 (F := Ideal) (φ := .f32) (FloatOps.sitofp (F := Ideal) FTy.f32 (BitVec.ofNat 32 x.val) - Ideal.ofBits FTy.f32 1123811328#32) ≤ a then (1 : EReal) else 0)
      = (((if x.val < n then (1 : ℝ) else 0) : ℝ) : EReal) := by
    intro x
    rw [power_eq]
    by_cases hc : x.val < n
    · rw [if_pos ((h _ (by omega) (by omega)).2 hc), if_pos hc]; rfl
    · rw [if_neg (fun h' => hc ((h _ (by omega) (by omega)).1 h')), if_neg hc]; rfl
  rw [Finset.sum_congr rfl fun x _ => h1 x, sum_coe]
  congr 1
  rw [Fin.sum_univ_eq_sum_range (fun k => if k < n then (1 : ℝ) else 0) 246, ← Finset.sum_filter, Finset.sum_const, nsmul_eq_mul, mul_one]
  congr 1
  rw [show (Finset.range 246).filter (fun k => k < n) = Finset.range n by ext k; simp; omega, Finset.card_range]

/-- The exponent word of a field, and the words of the powers of two at it and at minus it. -/
theorem expo_words : ∀ n : Fin 247, 1 ≤ n.val → expoFS (BitVec.ofNat 32 n.val) = BitVec.ofNat 32 (2 ^ 32 + n.val - 126)
    ∧ IntOp.shli ArithUnit.vector (IntOp.addi (BitVec.ofNat 32 (2 ^ 32 + n.val - 126)) 127#32) 23#32 = BitVec.ofNat 32 (n.val + 1) <<< 23
    ∧ IntOp.shli ArithUnit.vector (IntOp.addi (IntOp.subi (0#32) (BitVec.ofNat 32 (2 ^ 32 + n.val - 126))) 127#32) 23#32 = BitVec.ofNat 32 (253 - n.val) <<< 23 := by
  decide +kernel

/-- The pattern of exponent zero is one. -/
theorem pat_127 : Ideal.ofBits FTy.f32 (IntOp.shli ArithUnit.vector (IntOp.addi (0#32) 127#32) 23#32) = 1
    ∧ Ideal.ofBits FTy.f32 (IntOp.shli ArithUnit.vector (IntOp.addi (IntOp.subi (0#32) 0#32) 127#32) 23#32) = 1 := by
  have h : Ideal.ofBits FTy.f32 (IntOp.shli ArithUnit.vector (IntOp.addi (0#32) 127#32) 23#32) = pat 127 := by unfold pat; congr 1
  have h' : Ideal.ofBits FTy.f32 (IntOp.shli ArithUnit.vector (IntOp.addi (IntOp.subi (0#32) 0#32) 127#32) 23#32) = pat 127 := by unfold pat; congr 1
  have h1 : pat 127 = 1 := by rw [pat_eq 127 (by norm_num) (by norm_num)]; norm_num
  exact ⟨h.trans h1, h'.trans h1⟩

/-- `exp2` at an integer is the power of two. -/
theorem exp2_int (z : ℤ) : FloatOps.exp2 (F := Ideal) (φ := .f32) (((z : ℝ) : EReal)) = (((2 : ℝ) ^ z : ℝ) : EReal) := by
  show Ideal.exp2 _ = _
  rw [Ideal.exp2_coe]; congr 1
  exact Real.rpow_intCast 2 z
/-- `exp2` at zero is one. -/
theorem exp2_zero' : FloatOps.exp2 (F := Ideal) (φ := .f32) (0 : EReal) = 1 := by
  have := exp2_int 0; simpa using this

/-- Either the exponent is zero on both sides, or it is a field from 1 to 246 less 126 on both. -/
theorem expo_cases (a : EReal) : (expoS a = 0#32 ∧ refE a = 0)
    ∨ ∃ n : Fin 247, 1 ≤ n.val ∧ expoS a = BitVec.ofNat 32 (2 ^ 32 + n.val - 126) ∧ refE a = ((((n.val : ℤ) - 126 : ℤ) : ℝ) : EReal) := by
  by_cases ha : a < pat 247
  · obtain ⟨n, hn, h⟩ := exists_level a ha
    have hf : fieldCS a = BitVec.ofNat 32 n := by unfold fieldCS; rw [c247, if_pos ha, field_eq a n hn h]
    rcases Nat.eq_zero_or_pos n with h0 | h0
    · left
      have h1 : ¬ pat 1 ≤ a := fun h' => by have := (h 1 (by omega) (by omega)).1 h'; omega
      constructor
      · unfold expoS; rw [hf, h0]; decide
      · unfold refE; rw [c1, decide_eq_false h1]
        have hz : IntOp.andi (BitVec.ofBool false) (BitVec.ofBool (decide (a < Ideal.ofBits FTy.f32 2071986176#32))) = 0#1 := by
          cases decide (a < Ideal.ofBits FTy.f32 2071986176#32) <;> rfl
        rw [hz]; rfl
    · right
      refine ⟨⟨n, by omega⟩, h0, ?_, ?_⟩
      · unfold expoS; rw [hf]; exact (expo_words ⟨n, by omega⟩ h0).1
      · unfold refE
        rw [count_eq a n hn h, c1, c247, decide_eq_true ((h 1 (by omega) (by omega)).2 h0), decide_eq_true ha, c126]
        show ((n : ℝ) : EReal) - ((126 : ℝ) : EReal) = _
        rw [← EReal.coe_sub]; congr 1; push_cast; ring
  · left
    constructor
    · unfold expoS fieldCS; rw [c247, if_neg ha]; decide
    · unfold refE; rw [c247, decide_eq_false ha]
      have hz : ∀ b : Bool, IntOp.andi (BitVec.ofBool b) (BitVec.ofBool false) = 0#1 := by decide
      rw [hz]; rfl

/-- The pattern of the scale is the power of two at the exponent. -/
theorem scale_pos (a : EReal) : Ideal.ofBits FTy.f32 (IntOp.shli ArithUnit.vector (IntOp.addi (expoS a) 127#32) 23#32) = FloatOps.exp2 (F := Ideal) (φ := .f32) (refE a) := by
  rcases expo_cases a with ⟨h1, h2⟩ | ⟨n, hn, h1, h2⟩
  · rw [h1, h2, pat_127.1, exp2_zero']
  · rw [h1, h2, (expo_words n hn).2.1, exp2_int]
    refine (pat_eq (n.val + 1) (by omega) (by omega)).trans ?_
    congr 2; push_cast; ring

/-- The pattern of the inverse scale is the power of two at minus the exponent. -/
theorem scale_neg (a : EReal) : Ideal.ofBits FTy.f32 (IntOp.shli ArithUnit.vector (IntOp.addi (IntOp.subi (0#32) (expoS a)) 127#32) 23#32) = FloatOps.exp2 (F := Ideal) (φ := .f32) (0 - refE a) := by
  rcases expo_cases a with ⟨h1, h2⟩ | ⟨n, hn, h1, h2⟩
  · rw [h1, h2, pat_127.2, sub_zero, exp2_zero']
  · have : (0 : EReal) - ((((n.val : ℤ) - 126 : ℤ) : ℝ) : EReal) = (((126 - (n.val : ℤ) : ℤ) : ℝ) : EReal) := by
      rw [← EReal.coe_zero, ← EReal.coe_sub]; congr 1; push_cast; ring
    rw [h1, h2, this, (expo_words n hn).2.2, exp2_int]
    refine (pat_eq (253 - n.val) (by omega) (by omega)).trans ?_
    congr 2; omega

end Cert.Scale

end
-- ==== Proof.IdealOut.lean ====
/- What the last point stores, entry by entry, at the ideal operations, over the tiles it loads. -/
module

public import proofs.«01_k».proof.Proof.IdealTile
public import proofs.«01_k».proof.Proof.IdealWindows
public import proofs.«01_k».proof.Proof.IdealScale
public import Idealize.ShloMosaic.Lib.Pointwise
public import Idealize.ShloMosaic.Lib.WritesUnit

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Scale

/-- The column is one of the 6144. -/
theorem colOf_lt (n : Nat) (hn : n < 12) (c : Fin 512) : 512 * n + c.val < 6144 := by omega
/-- The row is one of the 192. -/
theorem grpRow_lt (n : Nat) (hn : n < 12) (w : Fin 16) : 16 * n + w.val < 192 := by omega
/-- The row is one of the 192. -/
theorem rowOf_lt (a : Fin 4) (b : Fin 3) (w : Fin 16) : a.val * 48 + b.val * 16 + w.val < 192 := by omega
/-- Column `c` of tile `n`. -/
def colOf (n : Nat) (hn : n < 12) (c : Fin 512) : Fin 6144 := ⟨512 * n + c.val, colOf_lt n hn c⟩
/-- Row `w` of group `n`. -/
def grpRow (n : Nat) (hn : n < 12) (w : Fin 16) : Fin 192 := ⟨16 * n + w.val, grpRow_lt n hn w⟩
/-- The row of a batch, a head and a window. -/
def rowOf (a : Fin 4) (b : Fin 3) (w : Fin 16) : Fin 192 := ⟨a.val * 48 + b.val * 16 + w.val, rowOf_lt a b w⟩

/-- The largest magnitude of a row. -/
def foldMax {n : Nat} (g : Fin n → EReal) : EReal :=
  Finset.fold max (Ideal.ofBits FTy.f32 4286578688#32) (fun x => FloatOps.absf (F := Ideal) (φ := .f32) (g x)) Finset.univ
/-- The exponent of a row. -/
def expOf {n : Nat} (g : Fin n → EReal) : EReal := refE (foldMax g * Ideal.ofBits FTy.f32 991054117#32)
/-- The code of a value at an exponent. -/
def codeAt (x e : EReal) : EReal :=
  min (Ideal.ofBits FTy.f32 1138753536#32) (max (Ideal.ofBits FTy.f32 3286237184#32) (x * FloatOps.exp2 (F := Ideal) (φ := .f32) (0 - e)))
/-- The scale at an exponent. -/
def scaleAt (e : EReal) : EReal := FloatOps.exp2 (F := Ideal) (φ := .f32) e
/-- The second layer's output from a row of the hidden layer, a column of weights, a scale and a bias. -/
def outAt (h w : Fin 6144 → EReal) (s b : EReal) : EReal := (∑ x, codeAt (h x) (expOf h) * w x) * scaleAt (expOf h) * s + b

section Scales

variable (m : FVec Ideal S192x1 .f32) (r : Fin 192)

/-- The exponent a row's maximum gives, on every lane. -/
theorem exM_apply (l : Fin 128) : exM m (ix2 r l) = expoS (m (ix2 r (0 : Fin 1)) * Ideal.ofBits FTy.f32 991054117#32) := by
  have h : over448 m (ix2 r l) = m (ix2 r (0 : Fin 1)) * Ideal.ofBits FTy.f32 991054117#32 := by
    unfold over448
    pointwise
  have hs : ∀ (a : FVec Ideal S192x128 .f32) (e : IVec S192x128 32) (off bit : BitVec 32), stepE a e off bit (ix2 r l) = stepS (a (ix2 r l)) (e (ix2 r l)) off bit := by
    intro a e off bit
    unfold stepE stepS
    pointwise
  have hf : fieldE (over448 m) (ix2 r l) = fieldS (over448 m (ix2 r l)) := by
    unfold fieldE fieldS
    simp only [hs]
    rfl
  have hc : fieldC (over448 m) (ix2 r l) = fieldCS (over448 m (ix2 r l)) := by
    unfold fieldC fieldCS
    rw [← hf]
    pointwise
  have he : ∀ f : IVec S192x128 32, expoF f (ix2 r l) = expoFS (f (ix2 r l)) := fun f => rfl
  unfold exM expo expoS
  rw [he, hc, h]
/-- A row's inverse scale is the power of two at minus its exponent. -/
theorem powNeg_apply : powNeg (F := Ideal) (exM m) (ix2 r (0 : Fin 1)) = FloatOps.exp2 (F := Ideal) (φ := .f32) (0 - refE (m (ix2 r (0 : Fin 1)) * Ideal.ofBits FTy.f32 991054117#32)) := by
  rw [← scale_neg, ← exM_apply m r 0]
  unfold powNeg
  pointwise
/-- A row's scale is the power of two at its exponent. -/
theorem powPos_apply : powPos (F := Ideal) (exM m) (ix2 r (0 : Fin 1)) = scaleAt (refE (m (ix2 r (0 : Fin 1)) * Ideal.ofBits FTy.f32 991054117#32)) := by
  unfold scaleAt
  rw [← scale_pos, ← exM_apply m r 0]
  unfold powPos
  pointwise

/-- A group's scales as stored are its rows' scales. -/
theorem scaleRow_apply (v : FVec Ideal S192x1 .f32) (n : Nat) (hn : n < 12) (a b : Fin 1) (w : Fin 16) :
    scaleRow v n hn (ix3 a b w) = v (ix2 (grpRow n hn w) (0 : Fin 1)) := by
  unfold scaleRow grpRow
  pointwise
  exact sum_diag' (by norm_num) w fun x => v (ix2 (⟨16 * n + x.val, by omega⟩ : Fin 192) (0 : Fin 1))

end Scales

section Tail

variable (T : (n : Nat) → n < 12 → FVec Ideal S1x192x512 .f32) (W : (n : Nat) → n < 12 → FVec Ideal S160x512 .fp8e4m3) (s2 b2 : FVec Ideal S1x160 .f32)
  (H : Fin 192 → Fin 6144 → EReal) (w2 : Fin 6144 → Fin 160 → EReal)
  (hT : ∀ (n : Nat) (hn : n < 12) (r : Fin 192) (c : Fin 512), T n hn (ix3 (0 : Fin 1) r c) = H r (colOf n hn c))
  (hW : ∀ (n : Nat) (hn : n < 12) (d : Fin 160) (c : Fin 512), W n hn (ix2 d c) = w2 (colOf n hn c) d)

include hT in
/-- The maxima over the first tiles bound exactly the magnitudes of the columns in them. -/
theorem rowMax_le (n : Nat) (hn : n < 12) (r : Fin 192) (b : EReal) :
    rowMax T n hn (ix2 r (0 : Fin 1)) ≤ b ↔ Ideal.ofBits FTy.f32 4286578688#32 ≤ b ∧ ∀ f : Fin 6144, f.val < 512 * (n + 1) → FloatOps.absf (F := Ideal) (φ := .f32) (H r f) ≤ b := by
  have ht : ∀ (n : Nat) (hn : n < 12), tileMax T n hn (ix2 r (0 : Fin 1)) ≤ b ↔ Ideal.ofBits FTy.f32 4286578688#32 ≤ b
      ∧ ∀ f : Fin 6144, 512 * n ≤ f.val → f.val < 512 * (n + 1) → FloatOps.absf (F := Ideal) (φ := .f32) (H r f) ≤ b := by
    intro n hn
    have h1 : tileMax T n hn (ix2 r (0 : Fin 1)) = Finset.fold max (Ideal.ofBits FTy.f32 4286578688#32) (fun x : Fin 512 => FloatOps.absf (F := Ideal) (φ := .f32) (T n hn (ix3 (0 : Fin 1) r x))) Finset.univ := by
      unfold tileMax
      pointwise
    rw [h1, Finset.fold_max_le]
    refine and_congr_right fun _ => ⟨fun h f hf1 hf2 => ?_, fun h x _ => ?_⟩
    · have := h ⟨f.val - 512 * n, by omega⟩ (Finset.mem_univ _)
      rw [hT] at this
      rw [show f = colOf n hn ⟨f.val - 512 * n, by omega⟩ from Fin.ext (by show f.val = 512 * n + (f.val - 512 * n); omega)]
      exact this
    · rw [hT]
      exact h _ (by show 512 * n ≤ 512 * n + x.val; omega) (by show 512 * n + x.val < _; omega)
  induction n with
  | zero =>
    refine (ht 0 hn).trans (and_congr_right fun _ => ⟨fun h f hf => h f (by omega) hf, fun h f _ hf => h f hf⟩)
  | succ n ih =>
    show max (rowMax T n _ (ix2 r (0 : Fin 1))) (tileMax T (n + 1) hn (ix2 r (0 : Fin 1))) ≤ b ↔ _
    refine (max_le_iff.trans (and_congr (ih (Nat.lt_of_succ_lt hn)) (ht (n + 1) hn))).trans ?_
    constructor
    · rintro ⟨⟨h0, h1⟩, -, h2⟩
      exact ⟨h0, fun f hf => if h : f.val < 512 * (n + 1) then h1 f h else h2 f (by omega) hf⟩
    · rintro ⟨h0, h1⟩
      exact ⟨⟨h0, fun f hf => h1 f (by omega)⟩, h0, fun f _ hf => h1 f hf⟩

include hT in
/-- The row maxima are those of the whole rows. -/
theorem hidMax_apply (r : Fin 192) : hidMax T (ix2 r (0 : Fin 1)) = foldMax (H r) := by
  have h : hidMax T (ix2 r (0 : Fin 1)) = rowMax T 11 (by decide) (ix2 r (0 : Fin 1)) := by
    unfold hidMax
    pointwise
  rw [h]
  refine eq_of_forall_ge_iff fun b => ?_
  rw [rowMax_le T H hT 11 (by decide) r b]
  unfold foldMax
  rw [Finset.fold_max_le]
  exact and_congr_right fun _ => ⟨fun h x _ => h x x.isLt, fun h f _ => h f (Finset.mem_univ _)⟩

include hT in
/-- A tile's codes are the codes of its entries at their rows' exponents. -/
theorem code_apply (n : Nat) (hn : n < 12) (r : Fin 192) (c : Fin 512) :
    codeOf (powNeg (exM (hidMax T))) (T n hn) (ix2 r c) = codeAt (H r (colOf n hn c)) (expOf (H r)) := by
  unfold codeAt expOf
  rw [← hidMax_apply T H hT r, ← powNeg_apply, ← hT n hn]
  unfold codeOf
  pointwise

include hT hW in
/-- The sums over the first tiles are the sums over their columns. -/
theorem acc2_apply (n : Nat) (hn : n ≤ 12) (r : Fin 192) (d : Fin 160) :
    acc2 T W (powNeg (exM (hidMax T))) n hn (ix2 r d)
      = ∑ x ∈ Finset.range (512 * n), (if h : x < 6144 then codeAt (H r ⟨x, h⟩) (expOf (H r)) * w2 ⟨x, h⟩ d else 0) := by
  induction n with
  | zero =>
    show Ideal.ofBits FTy.f32 0#32 = _
    rw [Ideal.ofBits_zero_f32]; rfl
  | succ n ih =>
    have h : acc2 T W (powNeg (exM (hidMax T))) (n + 1) hn (ix2 r d)
        = acc2 T W (powNeg (exM (hidMax T))) n (Nat.le_of_succ_le hn) (ix2 r d) + ∑ x : Fin 512, codeOf (powNeg (exM (hidMax T))) (T n hn) (ix2 r x) * W n hn (ix2 d x) := by
      rw [acc2]
      pointwise
    rw [h, ih, show 512 * (n + 1) = 512 * n + 512 from rfl, Finset.sum_range_add, Finset.sum_range (n := 512)]
    congr 1
    refine Finset.sum_congr rfl fun x _ => ?_
    rw [code_apply T H hT, hW, dif_pos (by omega)]
    rfl

include hT hW in
/-- The outputs. -/
theorem outV_apply (r : Fin 192) (d : Fin 160) :
    outV T W s2 b2 (ix2 r d) = outAt (H r) (fun f => w2 f d) (s2 (ix2 (0 : Fin 1) d)) (b2 (ix2 (0 : Fin 1) d)) := by
  have h : outV T W s2 b2 (ix2 r d) = acc2 T W (powNeg (exM (hidMax T))) 12 (Nat.le_refl 12) (ix2 r d) * powPos (F := Ideal) (exM (hidMax T)) (ix2 r (0 : Fin 1))
      * s2 (ix2 (0 : Fin 1) d) + b2 (ix2 (0 : Fin 1) d) := by
    unfold outV out2
    pointwise
  rw [h, acc2_apply T W H w2 hT hW, powPos_apply, hidMax_apply T H hT, Finset.sum_range (n := 512 * 12)]
  unfold outAt
  refine congrArg (fun z => z * _ * _ + _) ?_
  exact Finset.sum_congr rfl fun x _ => dif_pos x.isLt

end Tail

section Outputs

variable (o : FVec Ideal S192x160 .f32) (r : Fin 192)

/-- The largest magnitude of a row of outputs. -/
theorem outMax_apply : outMax o (ix2 r (0 : Fin 1)) = foldMax fun d : Fin 160 => o (ix2 r d) := by
  unfold outMax foldMax
  pointwise

/-- The outputs' codes. -/
theorem outCode_apply (a : Fin 4) (b : Fin 3) (w : Fin 16) (d : Fin 160) :
    outCode o (powNeg (exM (outMax o))) (ix4 a b w d)
      = codeAt (o (ix2 (rowOf a b w) d)) (expOf fun d : Fin 160 => o (ix2 (rowOf a b w) d)) := by
  unfold codeAt expOf
  rw [← outMax_apply, ← powNeg_apply]
  unfold outCode rowOf
  pointwise

end Outputs

end Cert.KernelIdeal.Runs

end
-- ==== Proof.IdealStep.lean ====
/- What one grid point reads and leaves, entry by entry, at the ideal operations. -/
module

public import proofs.«01_k».proof.Proof.IdealTile
public import proofs.«01_k».proof.Proof.IdealWindows
public import proofs.«01_k».proof.Proof.IdealOut
public import Idealize.ShloMosaic.Lib.Pointwise
public import Idealize.ShloMosaic.Lib.WritesUnit

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Reads

/-! ## Loads -/

/-- The block of windows read whole is the block. -/
theorem xRead_eq (arg16 : Memref sig .tc .vmem S192x5120 .bf16) (harg16 : arg16.IsWhole) (xs0 : Vec Ideal S192x5120 .bf16) : xRead arg16 harg16 xs0 = xs0 := by
  unfold xRead
  rw [View.readAt_eq_ld, harg16.read_unread]
  exact View.ld_unit_zero (S := S192x5120) (funext fun a => by fin_cases a <;> rfl) _ _
/-- A row read whole is the row. -/
theorem rowRead_eq (a : Memref sig .tc .vmem S1x512 .f32) (h : a.IsWhole) (x : Vec Ideal S1x512 .f32) : rowRead a h x = x := by
  unfold rowRead
  rw [View.readAt_eq_ld, h.read_unread]
  exact View.ld_unit_zero (S := S1x512) (funext fun a => by fin_cases a <;> rfl) _ _
/-- A row read whole is the row. -/
theorem rowRead2_eq (a : Memref sig .tc .vmem S1x160 .f32) (h : a.IsWhole) (x : Vec Ideal S1x160 .f32) : rowRead2 a h x = x := by
  unfold rowRead2
  rw [View.readAt_eq_ld, h.read_unread]
  exact View.ld_unit_zero (S := S1x160) (funext fun a => by fin_cases a <;> rfl) _ _
/-- The block of windows, loaded whole after stores, is what the stores leave. -/
theorem readCov_wins (v : View sig .tc .vmem S192x5120 .bf16) (L : List (View.Piece (Elt Ideal) S192x5120 .bf16)) (G : S192x5120.Idx → EReal)
    (h : ∀ f, v.read (Elt Ideal) (v.writes (Elt Ideal) f L) = G) :
    v.readCov L (Rect.unit (s := S192x5120) ![0, 0] S192x5120.size inb_S192x5120_S192x5120_0_0).toLoadRect = G := by
  unfold View.readCov
  rw [View.readAt_eq_ld, h]
  exact View.ld_unit_zero (S := S192x5120) (funext fun a => by fin_cases a <;> rfl) _ _
/-- A tile of the second layer's weights. -/
theorem wRead_apply (arg9 : Memref sig .tc .vmem S160x6144 .fp8e4m3) (harg9 : arg9.IsWhole) (x8 : Vec Ideal S160x6144 .fp8e4m3) (n : Nat) (hn : n < 12) (d : Fin 160) (c : Fin 512) :
    wRead arg9 harg9 x8 n hn (ix2 d c) = x8 (ix2 d (colOf n hn c)) := by
  unfold wRead
  simp only [View.readAt_eq_ld, harg9.read_unread]
  refine congrArg x8 (funext fun a => Fin.ext ?_)
  fin_cases a
  · show 0 + 1 * d.val = d.val; omega
  · show 512 * n + 1 * c.val = 512 * n + c.val; omega

end Reads

/-! ## The tile stored at a point -/

section Tile

variable (i : grid0.Coords) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole)
  (arg16 : Memref sig .tc .vmem S192x5120 .bf16) (harg16 : arg16.IsWhole) (arg19 : Memref sig .tc .vmem S12x192x512 .f32) (harg19 : arg19.IsWhole)
  (x5 : Vec Ideal S32x160x512 .fp8e4m3) (x6 x7 : Vec Ideal S1x512 .f32) (x : FVec Ideal S192x5120 .bf16) (xs3 : Vec Ideal S12x192x512 .f32)

/-- The stored tile's place. -/
theorem off1_eq : k0_off1 i = ![(i 0).val, 0, 0] := by
  have h : (i 0).val < 12 := (i 0).isLt
  have e : (Scalar.indexCast (BitVec.ofNat 32 (i 0).val) : Index).toNat = (i 0).val := by
    show (BitVec.ofNat 32 (i 0).val).toNat = _
    rw [BitVec.toNat_ofNat, Nat.mod_eq_of_lt (by omega)]
  unfold k0_off1
  dsimp only
  rw [e]
/-- A tile with an axis put before it. -/
theorem addLead (v : S192x512.Idx → EReal) (a : Fin 1) (r : Fin 192) (c : Fin 512) : shapeCast S1x192x512 v shapeCasts_S192x512_S1x192x512 (ix3 a r c) = v (ix2 r c) := by
  pointwise

/-- After the point's store, its tile reads the new entries and the others read what they held. -/
theorem read_tile (n : Fin 12) (r : Fin 192) (c : Fin 512) :
    arg19.view.read (Elt Ideal) (arg19.view.writes (Elt Ideal) (harg19.unread xs3) (tileL i arg6 harg6 arg7 harg7 arg8 harg8 x5 x6 x7 x)) (ix3 n r c)
      = if n.val = (i 0).val then actE ((∑ k : Fin 5120, x (ix2 r k) * x5 (ix3 (colTok k) (colFeat k) c)) * x6 (ix2 (0 : Fin 1) c) + x7 (ix2 (0 : Fin 1) c)) else xs3 (ix3 n r c) := by
  unfold tileL
  split
  · rename_i h
    refine (View.read_writes_cons_unit_of_mem arg19.view (harg19.unread xs3) (off' := ![(i 0).val, 0, 0]) (k0_off1_inb i) _ _ (ix3 n r c) (ix3 (0 : Fin 1) r c) (off1_eq i) (fun a => by
      fin_cases a
      · show n.val = (i 0).val + 0; omega
      · show r.val = 0 + r.val; omega
      · show c.val = 0 + c.val; omega)).trans ?_
    refine (addLead _ 0 r c).trans ?_
    rw [tileV_apply, rowRead_eq, rowRead_eq]
  · rename_i h
    rw [View.read_writes_cons_unit_of_not_mem arg19.view (harg19.unread xs3) (off' := ![(i 0).val, 0, 0]) (k0_off1_inb i) _ _ (ix3 n r c) (off1_eq i) 0 (by
      show n.val < (i 0).val ∨ (i 0).val + 1 ≤ n.val; omega)]
    exact congrFun (harg19.read_unread xs3) _

/-- A tile as the last point loads it. -/
theorem tRead_apply (xs0 : Vec Ideal S192x5120 .bf16) (n : Nat) (hn : n < 12) (r : Fin 192) (c : Fin 512) :
    tRead i arg6 harg6 arg7 harg7 arg8 harg8 arg16 harg16 arg19 harg19 x5 x6 x7 xs0 xs3 n hn (ix3 (0 : Fin 1) r c)
      = arg19.view.read (Elt Ideal) (arg19.view.writes (Elt Ideal) (harg19.unread xs3) (tileL i arg6 harg6 arg7 harg7 arg8 harg8 x5 x6 x7 xs0)) (ix3 (⟨n, hn⟩ : Fin 12) r c) := by
  unfold tRead
  rw [View.readAt_eq_ld, xRead_eq]
  refine congrArg (arg19.view.read (Elt Ideal) _) (funext fun a => Fin.ext ?_)
  fin_cases a
  · show n + 1 * 0 = n; omega
  · show 0 + 1 * r.val = r.val; omega
  · show 0 + 1 * c.val = c.val; omega

end Tile

/-! ## The outputs' contents at the last point -/

section Outputs

/-- A tile with its rows split into batch, head and window. -/
theorem splitRows (v : S192x512.Idx → EReal) (a : Fin 4) (b : Fin 3) (w : Fin 16) (c : Fin 512) :
    shapeCast S4x3x16x512 v shapeCasts_S192x512_S4x3x16x512 (ix4 a b w c) = v (ix2 (rowOf a b w) c) := by
  unfold rowOf
  pointwise

variable (T : (n : Nat) → n < 12 → FVec Ideal S1x192x512 .f32) (H : Fin 192 → Fin 6144 → EReal)
  (hT : ∀ (n : Nat) (hn : n < 12) (r : Fin 192) (c : Fin 512), T n hn (ix3 (0 : Fin 1) r c) = H r (colOf n hn c))

include hT in
/-- Each store of codes agrees with the hidden layer's codes. -/
theorem codeL_agree : ∀ (n : Nat) (h : n ≤ 12), ∀ p ∈ codeL T (powNeg (exM (hidMax T))) n h, ∀ x : p.1.shape.Idx,
    p.2 x = (fun y : S4x3x16x6144.Idx => codeAt (H (rowOf (y 0) (y 1) (y 2)) (y 3)) (expOf (H (rowOf (y 0) (y 1) (y 2))))) (p.1.emb x)
  | 0, _, p, hp => by simp [codeL] at hp
  | n + 1, h, p, hp => by
    rw [codeL, List.mem_cons] at hp
    rcases hp with rfl | hp
    · intro x
      obtain ⟨a, b, w, c, rfl⟩ : ∃ (a : Fin 4) (b : Fin 3) (w : Fin 16) (c : Fin 512), x = ix4 a b w c := ⟨x 0, x 1, x 2, x 3, eq_ix4 x⟩
      refine (splitRows _ a b w c).trans ((code_apply T H hT n h _ c).trans ?_)
      have e : ∀ (r r' : Fin 192) (f f' : Fin 6144), r = r' → f = f' → codeAt (H r f) (expOf (H r)) = codeAt (H r' f') (expOf (H r')) := by
        rintro r _ f _ rfl rfl; rfl
      refine e _ _ _ _ (Fin.ext ?_) (Fin.ext ?_)
      · show a.val * 48 + b.val * 16 + w.val = (0 + 1 * a.val) * 48 + (0 + 1 * b.val) * 16 + (0 + 1 * w.val); omega
      · show 512 * n + c.val = 512 * n + 1 * c.val; omega
    · exact codeL_agree n _ p hp

include hT in
/-- The hidden layer's codes after the last point's stores. -/
theorem read_codeL (v : View sig .tc .vmem S4x3x16x6144 .fp8e4m3) (f : v.ty.Contents (Elt Ideal)) :
    v.read (Elt Ideal) (v.writes (Elt Ideal) f (codeL T (powNeg (exM (hidMax T))) 12 (Nat.le_refl 12)))
      = fun y : S4x3x16x6144.Idx => codeAt (H (rowOf (y 0) (y 1) (y 2)) (y 3)) (expOf (H (rowOf (y 0) (y 1) (y 2)))) :=
  funext fun y => View.read_writes_apply_of_pieces v f (fun y : S4x3x16x6144.Idx => codeAt (H (rowOf (y 0) (y 1) (y 2)) (y 3)) (expOf (H (rowOf (y 0) (y 1) (y 2))))) _
    (codeL_agree T H hT 12 _) y (View.cover_of_tiledL _ ![4, 3, 16, 512] (by sl_kernel_rfl) y)

variable (s : FVec Ideal S192x1 .f32)

/-- Each store of scales agrees with the rows' scales. -/
theorem scaleL_agree : ∀ (n : Nat) (h : n ≤ 12), ∀ p ∈ scaleL s n h, ∀ x : p.1.shape.Idx,
    p.2 x = (fun y : S3x4x16.Idx => s (ix2 (rowOf (y 1) (y 0) (y 2)) (0 : Fin 1))) (p.1.emb x)
  | 0, _, p, hp => by simp [scaleL] at hp
  | n + 1, h, p, hp => by
    rw [scaleL, List.mem_cons] at hp
    rcases hp with rfl | hp
    · intro x
      obtain ⟨a, b, w, rfl⟩ : ∃ (a b : Fin 1) (w : Fin 16), x = ix3 a b w := ⟨x 0, x 1, x 2, eq_ix3 x⟩
      refine (scaleRow_apply s n h a b w).trans (congrArg (fun r => s (ix2 r (0 : Fin 1))) (Fin.ext ?_))
      show 16 * n + w.val = (n / 3 + 1 * b.val) * 48 + (n % 3 + 1 * a.val) * 16 + (0 + 1 * w.val)
      have ha := a.isLt; have hb := b.isLt
      omega
    · exact scaleL_agree n _ p hp

/-- Scales after the last point's stores. -/
theorem read_scaleL (v : View sig .tc .vmem S3x4x16 .f32) (f : v.ty.Contents (Elt Ideal)) :
    v.read (Elt Ideal) (v.writes (Elt Ideal) f (scaleL s 12 (Nat.le_refl 12))) = fun y : S3x4x16.Idx => s (ix2 (rowOf (y 1) (y 0) (y 2)) (0 : Fin 1)) :=
  funext fun y => View.read_writes_apply_of_pieces v f (fun y : S3x4x16.Idx => s (ix2 (rowOf (y 1) (y 0) (y 2)) (0 : Fin 1))) _
    (scaleL_agree s 12 _) y (View.cover_of_tiledL _ ![1, 1, 16] (by sl_kernel_rfl) y)

/-- A whole output after one store. -/
theorem read_whole (v : View sig .tc .vmem S4x3x16x160 .fp8e4m3) (f : v.ty.Contents (Elt Ideal)) (u : S4x3x16x160.Idx → EReal) :
    v.read (Elt Ideal) (v.writes (Elt Ideal) f [⟨Rect.unit ![0, 0, 0, 0] S4x3x16x160.size inb_S4x3x16x160_S4x3x16x160_0_0_0_0, u⟩]) = u :=
  funext fun y => View.read_writes_cons_unit_of_mem (off' := ![0, 0, 0, 0]) _ _ _ _ _ y y rfl (fun a => by
    fin_cases a <;> exact (Nat.zero_add _).symm)

end Outputs

end Cert.KernelIdeal.Runs

end
-- ==== Proof.IdealBody.lean ====
/- The three runs of the body with what they leave in scratch and in the outputs as functions of what they read. -/
module

public import proofs.«01_k».proof.Proof.IdealTile
public import proofs.«01_k».proof.Proof.IdealWindows
public import proofs.«01_k».proof.Proof.IdealStep
public import Idealize.ShloMosaic.Lib.Pointwise
public import Idealize.ShloMosaic.Lib.WritesUnit

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## What a point leaves, as functions -/

/-- The hidden layer's tiles after a point: the point's own tile anew, the others as they were. -/
def tileStep (i : grid0.Coords) (x5 : Vec Ideal S32x160x512 .fp8e4m3) (x6 x7 : Vec Ideal S1x512 .f32) (x : S192x5120.Idx → EReal) (xs3 : S12x192x512.Idx → EReal)
    (n : Fin 12) (r : Fin 192) (c : Fin 512) : EReal :=
  if n.val = (i 0).val then actE ((∑ k : Fin 5120, x (ix2 r k) * x5 (ix3 (colTok k) (colFeat k) c)) * x6 (ix2 (0 : Fin 1) c) + x7 (ix2 (0 : Fin 1) c)) else xs3 (ix3 n r c)

/-- The block of windows, as contents. -/
def winOf (x0 : S4x3x160x256.Idx → EReal) (x1 : S3x4x256.Idx → EReal) (x2 : S4x3x16x160.Idx → EReal) (x3 : S3x4x16.Idx → EReal) (x4 : S32x160.Idx → EReal) :
    S192x5120.Idx → EReal := fun y => winAt x0 x1 x2 x3 x4 (y 0) (y 1)

/-- The second layer's row of a window. -/
def outRow (H : Fin 192 → Fin 6144 → EReal) (w2 : S160x6144.Idx → EReal) (s2 b2 : S1x160.Idx → EReal) (r : Fin 192) (d : Fin 160) : EReal :=
  outAt (H r) (fun f => w2 (ix2 d f)) (s2 (ix2 (0 : Fin 1) d)) (b2 (ix2 (0 : Fin 1) d))

/-- The codes of the hidden layer's rows, laid out as the kernel's output. -/
def codesH (H : Fin 192 → Fin 6144 → EReal) : S4x3x16x6144.Idx → EReal :=
  fun y => codeAt (H (rowOf (y 0) (y 1) (y 2)) (y 3)) (expOf (H (rowOf (y 0) (y 1) (y 2))))
/-- The codes of the second layer's rows, laid out as the kernel's output. -/
def codesO (O : Fin 192 → Fin 160 → EReal) : S4x3x16x160.Idx → EReal :=
  fun y => codeAt (O (rowOf (y 0) (y 1) (y 2)) (y 3)) (expOf (O (rowOf (y 0) (y 1) (y 2))))
/-- The scales of a layer's rows, laid out as the kernel's output. -/
def scalesOf {n : Nat} (H : Fin 192 → Fin n → EReal) : S3x4x16.Idx → EReal :=
  fun y => scaleAt (expOf (H (rowOf (y 1) (y 0) (y 2))))

section Bodies

variable (c : Dev nD) (i : grid0.Coords) (arg1 : Memref sig .tc .vmem S4x3x160x256 .fp8e4m3) (harg1 : arg1.IsWhole) (arg2 : Memref sig .tc .vmem S3x4x256 .f32) (harg2 : arg2.IsWhole) (arg3 : Memref sig .tc .vmem S4x3x16x160 .fp8e4m3) (harg3 : arg3.IsWhole) (arg4 : Memref sig .tc .vmem S3x4x16 .f32) (harg4 : arg4.IsWhole) (arg5 : Memref sig .tc .vmem S32x160 .f32) (harg5 : arg5.IsWhole) (arg6 : Memref sig .tc .vmem S32x160x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S160x6144 .fp8e4m3) (harg9 : arg9.IsWhole) (arg10 : Memref sig .tc .vmem S1x160 .f32) (harg10 : arg10.IsWhole) (arg11 : Memref sig .tc .vmem S1x160 .f32) (harg11 : arg11.IsWhole) (arg12 : Memref sig .tc .vmem S4x3x16x160 .fp8e4m3) (harg12 : arg12.IsWhole) (arg13 : Memref sig .tc .vmem S3x4x16 .f32) (harg13 : arg13.IsWhole) (arg14 : Memref sig .tc .vmem S4x3x16x6144 .fp8e4m3) (harg14 : arg14.IsWhole) (arg15 : Memref sig .tc .vmem S3x4x16 .f32) (harg15 : arg15.IsWhole) (arg16 : Memref sig .tc .vmem S192x5120 .bf16) (harg16 : arg16.IsWhole) (arg17 : Memref sig .tc .vmem S272x128 .f32) (harg17 : arg17.IsWhole) (arg18 : Memref sig .tc .vmem S272x128 .f32) (harg18 : arg18.IsWhole) (arg19 : Memref sig .tc .vmem S12x192x512 .f32) (harg19 : arg19.IsWhole)
  (x0 : Vec Ideal S4x3x160x256 .fp8e4m3) (x1 : Vec Ideal S3x4x256 .f32) (x2 : Vec Ideal S4x3x16x160 .fp8e4m3) (x3 : Vec Ideal S3x4x16 .f32) (x4 : Vec Ideal S32x160 .f32) (x5 : Vec Ideal S32x160x512 .fp8e4m3) (x6 : Vec Ideal S1x512 .f32) (x7 : Vec Ideal S1x512 .f32) (x8 : Vec Ideal S160x6144 .fp8e4m3) (x9 : Vec Ideal S1x160 .f32) (x10 : Vec Ideal S1x160 .f32)
  (xs0 : Vec Ideal S192x5120 .bf16) (xs3 : Vec Ideal S12x192x512 .f32)

/-- The tiles read after the point's store. -/
theorem read_step (L : List (View.Piece (Elt Ideal) S12x192x512 .f32)) (x : FVec Ideal S192x5120 .bf16)
    (hL : L = tileL i arg6 harg6 arg7 harg7 arg8 harg8 x5 x6 x7 x) :
    arg19.view.read (Elt Ideal) (arg19.view.writes (Elt Ideal) (harg19.unread xs3) L) = fun y => tileStep i x5 x6 x7 x xs3 (y 0) (y 1) (y 2) := by
  subst hL
  funext y
  obtain ⟨n, r, k, rfl⟩ : ∃ (n : Fin 12) (r : Fin 192) (k : Fin 512), y = ix3 n r k := ⟨y 0, y 1, y 2, eq_ix3 y⟩
  exact read_tile i arg6 harg6 arg7 harg7 arg8 harg8 arg19 harg19 x5 x6 x7 x xs3 n r k

set_option maxHeartbeats 4000000 in
/-- The first point: the block of windows is laid out in scratch and the first tile of the hidden layer computed from it. -/
theorem bodyA (hc0 : cond0_0 i) (hc1 : ¬cond0_1 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (winOf x0 x1 x2 x3 x4) ∗ (∃ d, owns (c : Thread nD τ) arg17 fullShare d) ∗ (∃ d, owns (c : Thread nD τ) arg18 fullShare d) ∗ owns (c : Thread nD τ) arg19 fullShare (fun y => tileStep i x5 x6 x7 (winOf x0 x1 x2 x3 x4) xs3 (y 0) (y 1) (y 2))) -∗ K ⟨⟩))
      ⊢ wp frame (wpE (defs₀ (F := Ideal)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, HS0, ⟨%xs1, HS1⟩, ⟨%xs2, HS2⟩, HS3, Hk⟩
  iapply ((kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs1 xs2 xs3).2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, ⟨%e0, HS0⟩, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]
  · unfold owns; iexists _; isplitr
    swap; · iexact HS0
    ipureintro; rw [runA_wins, xL_eq]; exact read_xL ..
  isplitl [HS1]; · iexact HS1
  isplitl [HS2]; · iexact HS2
  unfold owns; iexists _; isplitr
  swap; · iexact HS3
  ipureintro
  refine read_step i arg6 harg6 arg7 harg7 arg8 harg8 arg19 harg19 x5 x6 x7 xs3 _ _ ((runA_tile ..).trans ?_)
  rw [xL_eq]
  exact congrArg _ (readCov_wins arg16.view _ _ fun f => read_xL ..)

set_option maxHeartbeats 4000000 in
/-- A point between: one tile of the hidden layer is computed from the block of windows. -/
theorem bodyB (hc0 : ¬cond0_0 i) (hc1 : ¬cond0_1 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ owns (c : Thread nD τ) arg19 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ owns (c : Thread nD τ) arg19 fullShare (fun y => tileStep i x5 x6 x7 xs0 xs3 (y 0) (y 1) (y 2))) -∗ K ⟨⟩))
      ⊢ wp frame (wpE (defs₀ (F := Ideal)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  iintro ⟨H0, H1, H2, H3, H4, H5, H6, H7, H8, H9, H10, H11, H12, H13, H14, HS0, HS1, HS2, HS3, Hk⟩
  iapply ((kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  unfold owns; iexists _; isplitr
  swap; · iexact HS3
  ipureintro
  refine read_step i arg6 harg6 arg7 harg7 arg8 harg8 arg19 harg19 x5 x6 x7 xs3 _ _ ((runB_tile ..).trans ?_)
  rw [xRead_eq]

set_option maxHeartbeats 4000000 in
/-- The last point: the last tile is computed, and the four outputs are written from the hidden layer `H` that the twelve tiles make up. -/
theorem bodyC (hc0 : ¬cond0_0 i) (hc1 : cond0_1 i) (H : Fin 192 → Fin 6144 → EReal) (hH : ∀ (n : Fin 12) (r : Fin 192) (k : Fin 512), tileStep i x5 x6 x7 xs0 xs3 n r k = H r (colOf n.val n.isLt k)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d) ∗ owns (c : Thread nD τ) arg19 fullShare xs3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (codesO (outRow H x8 x9 x10)) ∗ owns (c : Thread nD τ) arg13 fullShare (scalesOf (outRow H x8 x9 x10)) ∗ owns (c : Thread nD τ) arg14 fullShare (codesH H) ∗ owns (c : Thread nD τ) arg15 fullShare (scalesOf H) ∗ owns (c : Thread nD τ) arg16 fullShare xs0 ∗ (∃ d, owns (c : Thread nD τ) arg17 fullShare d) ∗ (∃ d, owns (c : Thread nD τ) arg18 fullShare d) ∗ owns (c : Thread nD τ) arg19 fullShare (fun y => tileStep i x5 x6 x7 xs0 xs3 (y 0) (y 1) (y 2))) -∗ K ⟨⟩))
      ⊢ wp frame (wpE (defs₀ (F := Ideal)) Variants.none c none) E (cc0_nsa_compress i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have hT : ∀ (n : Nat) (hn : n < 12) (r : Fin 192) (k : Fin 512), (tRead i arg6 harg6 arg7 harg7 arg8 harg8 arg16 harg16 arg19 harg19 x5 x6 x7 xs0 xs3) n hn (ix3 (0 : Fin 1) r k) = H r (colOf n hn k) := fun n hn r k => by
    rw [tRead_apply]
    exact (read_tile i arg6 harg6 arg7 harg7 arg8 harg8 arg19 harg19 x5 x6 x7 xs0 xs3 ⟨n, hn⟩ r k).trans (hH ⟨n, hn⟩ r k)
  have hO : ∀ (r : Fin 192) (d : Fin 160), outV (tRead i arg6 harg6 arg7 harg7 arg8 harg8 arg16 harg16 arg19 harg19 x5 x6 x7 xs0 xs3) (wRead arg9 harg9 x8) (rowRead2 arg10 harg10 x9) (rowRead2 arg11 harg11 x10) (ix2 r d) = outRow H x8 x9 x10 r d := fun r d => by
    rw [rowRead2_eq, rowRead2_eq]
    exact outV_apply _ _ x9 x10 H (fun f d => x8 (ix2 d f)) hT (fun n hn d k => wRead_apply arg9 harg9 x8 n hn d k) r d
  iintro ⟨H0, H1, H2, H3, H4, H5, H6, H7, H8, H9, H10, H11, H12, H13, H14, HS0, HS1, HS2, HS3, Hk⟩
  iapply ((kernelRunC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs3).2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, ⟨%e11, H11⟩, ⟨%e12, H12⟩, ⟨%e13, H13⟩, ⟨%e14, H14⟩, HS0, HS1, HS2, HS3⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro;
    refine (congrArg (fun L => arg12.view.read (Elt Ideal) (arg12.view.writes (Elt Ideal) e11 L)) (runC_ck ..)).trans ((read_whole ..).trans (funext fun y => ?_))
    obtain ⟨a, b, w, d, rfl⟩ : ∃ (a : Fin 4) (b : Fin 3) (w : Fin 16) (d : Fin 160), y = ix4 a b w d := ⟨y 0, y 1, y 2, y 3, eq_ix4 y⟩
    rw [outCode_apply]
    simp only [hO]
    rfl
  isplitl [H12]
  · unfold owns; iexists _; isplitr
    swap; · iexact H12
    ipureintro;
    refine (congrArg (fun L => arg13.view.read (Elt Ideal) (arg13.view.writes (Elt Ideal) e12 L)) (runC_cks ..)).trans ((read_scaleL ..).trans (funext fun y => ?_))
    rw [powPos_apply, outMax_apply]
    simp only [hO]
    rfl
  isplitl [H13]
  · unfold owns; iexists _; isplitr
    swap; · iexact H13
    ipureintro;
    exact (congrArg (fun L => arg14.view.read (Elt Ideal) (arg14.view.writes (Elt Ideal) e13 L)) (runC_hc ..)).trans (read_codeL _ H hT ..)
  isplitl [H14]
  · unfold owns; iexists _; isplitr
    swap; · iexact H14
    ipureintro;
    refine (congrArg (fun L => arg15.view.read (Elt Ideal) (arg15.view.writes (Elt Ideal) e14 L)) (runC_hs ..)).trans ((read_scaleL ..).trans (funext fun y => ?_))
    rw [powPos_apply, hidMax_apply _ H hT]
    rfl
  isplitl [HS0]; · iexact HS0
  isplitl [HS1]; · iexact HS1
  isplitl [HS2]; · iexact HS2
  unfold owns; iexists _; isplitr
  swap; · iexact HS3
  ipureintro
  refine read_step i arg6 harg6 arg7 harg7 arg8 harg8 arg19 harg19 x5 x6 x7 xs3 _ _ ((runC_tile ..).trans ?_)
  rw [xRead_eq]

end Bodies

end Cert.KernelIdeal.Runs

end
-- ==== Proof.IdealBlocks.lean ====
/- What each input window's block holds at a point, in terms of the arrays the region finds. -/
module

public import proofs.«01_k».proof.Proof.IdealBody
public import Idealize.ShloMosaic.Lib.Pipeline.Value

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The grid's one coordinate is the point's number. -/
theorem coord0 : ∀ t : Fin cfg0.N, (grid0.coords t 0).val = t.val := (by decide +kernel : ∀ t : Fin grid0.N, (grid0.coords t 0).val = t.val)

/-! ## Windows whose block is their whole array -/

/-- The block indices of window 0 at each point. -/
theorem idx0 : ∀ (t : Fin cfg0.N) (a : Fin 4), win0_0.index t a = 0 := (by decide +kernel : ∀ (t : Fin grid0.N) (a : Fin 4), win0_0.index t a = 0)
/-- Input window 0 holds its array whole at every point. -/
theorem iblk0 (c : Dev nD) (t : Fin cfg0.N) : (iblk m c 0 t : S4x3x160x256.Idx → EReal) = V m c main_v0 :=
  funext fun y => congrArg (V m c main_v0) (funext fun a => Fin.ext (win0_0.rect_emb_val_of_index_zero t a (idx0 t a) y))
/-- The block indices of window 1 at each point. -/
theorem idx1 : ∀ (t : Fin cfg0.N) (a : Fin 3), win0_1.index t a = 0 := (by decide +kernel : ∀ (t : Fin grid0.N) (a : Fin 3), win0_1.index t a = 0)
/-- Input window 1 holds its array whole at every point. -/
theorem iblk1 (c : Dev nD) (t : Fin cfg0.N) : (iblk m c 1 t : S3x4x256.Idx → EReal) = V m c main_v1 :=
  funext fun y => congrArg (V m c main_v1) (funext fun a => Fin.ext (win0_1.rect_emb_val_of_index_zero t a (idx1 t a) y))
/-- The block indices of window 2 at each point. -/
theorem idx2 : ∀ (t : Fin cfg0.N) (a : Fin 4), win0_2.index t a = 0 := (by decide +kernel : ∀ (t : Fin grid0.N) (a : Fin 4), win0_2.index t a = 0)
/-- Input window 2 holds its array whole at every point. -/
theorem iblk2 (c : Dev nD) (t : Fin cfg0.N) : (iblk m c 2 t : S4x3x16x160.Idx → EReal) = V m c main_v2 :=
  funext fun y => congrArg (V m c main_v2) (funext fun a => Fin.ext (win0_2.rect_emb_val_of_index_zero t a (idx2 t a) y))
/-- The block indices of window 3 at each point. -/
theorem idx3 : ∀ (t : Fin cfg0.N) (a : Fin 3), win0_3.index t a = 0 := (by decide +kernel : ∀ (t : Fin grid0.N) (a : Fin 3), win0_3.index t a = 0)
/-- Input window 3 holds its array whole at every point. -/
theorem iblk3 (c : Dev nD) (t : Fin cfg0.N) : (iblk m c 3 t : S3x4x16.Idx → EReal) = V m c main_v3 :=
  funext fun y => congrArg (V m c main_v3) (funext fun a => Fin.ext (win0_3.rect_emb_val_of_index_zero t a (idx3 t a) y))
/-- The block indices of window 4 at each point. -/
theorem idx4 : ∀ (t : Fin cfg0.N) (a : Fin 2), win0_4.index t a = 0 := (by decide +kernel : ∀ (t : Fin grid0.N) (a : Fin 2), win0_4.index t a = 0)
/-- Input window 4 holds its array whole at every point. -/
theorem iblk4 (c : Dev nD) (t : Fin cfg0.N) : (iblk m c 4 t : S32x160.Idx → EReal) = V m c main_arg4 :=
  funext fun y => congrArg (V m c main_arg4) (funext fun a => Fin.ext (win0_4.rect_emb_val_of_index_zero t a (idx4 t a) y))
/-- The block indices of window 8 at each point. -/
theorem idx8 : ∀ (t : Fin cfg0.N) (a : Fin 2), win0_8.index t a = 0 := (by decide +kernel : ∀ (t : Fin grid0.N) (a : Fin 2), win0_8.index t a = 0)
/-- Input window 8 holds its array whole at every point. -/
theorem iblk8 (c : Dev nD) (t : Fin cfg0.N) : (iblk m c 8 t : S160x6144.Idx → EReal) = V m c main_v6 :=
  funext fun y => congrArg (V m c main_v6) (funext fun a => Fin.ext (win0_8.rect_emb_val_of_index_zero t a (idx8 t a) y))
/-- The block indices of window 9 at each point. -/
theorem idx9 : ∀ (t : Fin cfg0.N) (a : Fin 2), win0_9.index t a = 0 := (by decide +kernel : ∀ (t : Fin grid0.N) (a : Fin 2), win0_9.index t a = 0)
/-- Input window 9 holds its array whole at every point. -/
theorem iblk9 (c : Dev nD) (t : Fin cfg0.N) : (iblk m c 9 t : S1x160.Idx → EReal) = V m c main_v7 :=
  funext fun y => congrArg (V m c main_v7) (funext fun a => Fin.ext (win0_9.rect_emb_val_of_index_zero t a (idx9 t a) y))
/-- The block indices of window 10 at each point. -/
theorem idx10 : ∀ (t : Fin cfg0.N) (a : Fin 2), win0_10.index t a = 0 := (by decide +kernel : ∀ (t : Fin grid0.N) (a : Fin 2), win0_10.index t a = 0)
/-- Input window 10 holds its array whole at every point. -/
theorem iblk10 (c : Dev nD) (t : Fin cfg0.N) : (iblk m c 10 t : S1x160.Idx → EReal) = V m c main_v8 :=
  funext fun y => congrArg (V m c main_v8) (funext fun a => Fin.ext (win0_10.rect_emb_val_of_index_zero t a (idx10 t a) y))

/-! ## Windows that move along the hidden layer's columns -/

/-- The block indices of window 5 at each point. -/
theorem idx5 : ∀ (t : Fin cfg0.N) (a : Fin 3), win0_5.index t a = if a.val = 2 then t.val else 0 :=
  (by decide +kernel : ∀ (t : Fin grid0.N) (a : Fin 3), win0_5.index t a = if a.val = 2 then t.val else 0)

/-- The grid has twelve points. -/
theorem lt12 (t : Fin cfg0.N) : t.val < 12 := lt_of_lt_of_eq t.isLt (show cfg0.N = 12 from N_0)

/-- The first layer's weights: the 512 columns of the point's tile. -/
theorem iblk5 (c : Dev nD) (t : Fin cfg0.N) (j : Fin 32) (d : Fin 160) (k : Fin 512) :
    (iblk m c 5 t : S32x160x512.Idx → EReal) (ix3 j d k) = (V m c main_arg5 : S32x160x6144.Idx → EReal) (ix3 j d (colOf t.val (lt12 t) k)) :=
  congrArg (V m c main_arg5 : S32x160x6144.Idx → EReal) (funext fun a => Fin.ext ((win0_5.rect_emb_val t (ix3 j d k) a).trans (by
    rw [idx5 t a]
    fin_cases a
    · show 0 * 32 + j.val = j.val; omega
    · show 0 * 160 + d.val = d.val; omega
    · show t.val * 512 + k.val = 512 * t.val + k.val; omega)))

/-- The block indices of window 6 at each point. -/
theorem idx6 : ∀ (t : Fin cfg0.N) (a : Fin 2), win0_6.index t a = if a.val = 1 then t.val else 0 :=
  (by decide +kernel : ∀ (t : Fin grid0.N) (a : Fin 2), win0_6.index t a = if a.val = 1 then t.val else 0)
/-- The first layer's scales: the 512 columns of the point's tile. -/
theorem iblk6 (c : Dev nD) (t : Fin cfg0.N) (k : Fin 512) :
    (iblk m c 6 t : S1x512.Idx → EReal) (ix2 (0 : Fin 1) k) = (V m c main_v4 : S1x6144.Idx → EReal) (ix2 (0 : Fin 1) (colOf t.val (lt12 t) k)) :=
  congrArg (V m c main_v4 : S1x6144.Idx → EReal) (funext fun a => Fin.ext ((win0_6.rect_emb_val t (ix2 (0 : Fin 1) k) a).trans (by
    rw [idx6 t a]
    fin_cases a
    · show 0 * 1 + 0 = 0; omega
    · show t.val * 512 + k.val = 512 * t.val + k.val; omega)))

/-- The block indices of window 7 at each point. -/
theorem idx7 : ∀ (t : Fin cfg0.N) (a : Fin 2), win0_7.index t a = if a.val = 1 then t.val else 0 :=
  (by decide +kernel : ∀ (t : Fin grid0.N) (a : Fin 2), win0_7.index t a = if a.val = 1 then t.val else 0)
/-- The first layer's biases: the 512 columns of the point's tile. -/
theorem iblk7 (c : Dev nD) (t : Fin cfg0.N) (k : Fin 512) :
    (iblk m c 7 t : S1x512.Idx → EReal) (ix2 (0 : Fin 1) k) = (V m c main_v5 : S1x6144.Idx → EReal) (ix2 (0 : Fin 1) (colOf t.val (lt12 t) k)) :=
  congrArg (V m c main_v5 : S1x6144.Idx → EReal) (funext fun a => Fin.ext ((win0_7.rect_emb_val t (ix2 (0 : Fin 1) k) a).trans (by
    rw [idx7 t a]
    fin_cases a
    · show 0 * 1 + 0 = 0; omega
    · show t.val * 512 + k.val = 512 * t.val + k.val; omega)))

/-! ## The hidden layer over the arrays the region finds -/

/-- The first layer with its activation: entry `f` of a window's row. -/
def hidOf (wins : S192x5120.Idx → EReal) (w1 : S32x160x6144.Idx → EReal) (s1 b1 : S1x6144.Idx → EReal) (r : Fin 192) (f : Fin 6144) : EReal :=
  actE ((∑ k : Fin 5120, wins (ix2 r k) * w1 (ix3 (colTok k) (colFeat k) f)) * s1 (ix2 (0 : Fin 1) f) + b1 (ix2 (0 : Fin 1) f))

/-- The block of windows on core `c`. -/
def wins (c : Dev nD) : S192x5120.Idx → EReal := winOf (V m c main_v0) (V m c main_v1) (V m c main_v2) (V m c main_v3) (V m c main_arg4)
/-- The hidden layer on core `c`. -/
def hid (c : Dev nD) : Fin 192 → Fin 6144 → EReal := hidOf (wins m c) (V m c main_arg5) (V m c main_v4) (V m c main_v5)
/-- The second layer's rows on core `c`. -/
def outs (c : Dev nD) : Fin 192 → Fin 160 → EReal := outRow (hid m c) (V m c main_v6) (V m c main_v7) (V m c main_v8)

/-- The block of windows of the blocks at any point is that of the arrays. -/
theorem wins_at (c : Dev nD) (t : Fin cfg0.N) : winOf (iblk m c 0 t) (iblk m c 1 t) (iblk m c 2 t) (iblk m c 3 t) (iblk m c 4 t) = wins m c := by
  unfold wins; rw [← iblk0 m c t, ← iblk1 m c t, ← iblk2 m c t, ← iblk3 m c t, ← iblk4 m c t]
/-- The second layer over the blocks at any point is that over the arrays. -/
theorem outs_at (c : Dev nD) (t : Fin cfg0.N) : outRow (hid m c) (iblk m c 8 t) (iblk m c 9 t) (iblk m c 10 t) = outs m c := by
  unfold outs; rw [← iblk8 m c t, ← iblk9 m c t, ← iblk10 m c t]

/-- What the carried scratch holds before point `n`: past the first point the block of windows, and the tiles of the
    points behind. -/
def Held (c : Dev nD) (n : Nat) (d16 : S192x5120.Idx → EReal) (d19 : S12x192x512.Idx → EReal) : Prop :=
  (n ≠ 0 → d16 = wins m c) ∧ ∀ k : Fin 12, k.val < n → ∀ (r : Fin 192) (q : Fin 512), d19 (ix3 k r q) = hid m c r (colOf k.val k.isLt q)

/-- One point takes the scratch from holding the tiles behind it to holding its own too. -/
theorem Held.step {c : Dev nD} {t : Fin cfg0.N} {d16 : S192x5120.Idx → EReal} {d19 : S12x192x512.Idx → EReal} (h : Held m c t.val d16 d19) :
    Held m c (t.val + 1) (wins m c) (fun y => tileStep (grid0.coords t) (iblk m c 5 t) (iblk m c 6 t) (iblk m c 7 t) (wins m c) d19 (y 0) (y 1) (y 2)) := by
  refine ⟨fun _ => rfl, fun k hk r q => ?_⟩
  show tileStep (grid0.coords t) (iblk m c 5 t) (iblk m c 6 t) (iblk m c 7 t) (wins m c) d19 k r q = _
  unfold tileStep
  split
  · rename_i e
    rw [coord0 t] at e
    obtain rfl : k = ⟨t.val, lt12 t⟩ := Fin.ext e
    rw [iblk6, iblk7]
    simp only [iblk5]
    rfl
  · rename_i e
    rw [coord0 t] at e
    exact h.2 k (by omega) r q

end Cert.KernelIdeal.Runs

end
-- ==== Proof.IdealDats.lean ====
/- The kernel's run with its results named: the proof data of the pipeline, the body at every point, and the run of the
   whole program with the four output arrays after it. -/
module

public import proofs.«01_k».proof.Proof.IdealBlocks
public import Idealize.ShloMosaic.Lib.Pipeline.TableIdle
public import Idealize.ShloMosaic.Lib.Pipeline.ValueKit.Geometry
public import Idealize.ShloMosaic.Lib.Claim

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The invariant before point `n`: the scratch at contents that hold the tiles of the points behind (`Held`), and the
    generator register at some state. -/
def PhiN (c : Dev nD) (n : Nat) : sProp 𝕄 :=
  iprop((∃ d16 d17 d18 d19, ⌜Held m c n d16 d19⌝ ∗ owns (c : Thread nD τ) scM0_0 fullShare d16 ∗ owns (c : Thread nD τ) scM0_1 fullShare d17 ∗ owns (c : Thread nD τ) scM0_2 fullShare d18 ∗ owns (c : Thread nD τ) scM0_3 fullShare d19) ∗ (∃ r, prngReg c r))

/-- The proof data on core `c`: the arrays as the region finds them; an input's buffer at its block after every point, an
    output's at the result it is written back with; the invariant `PhiN`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => codesO (outs m c)
    | ⟨12, _⟩ => scalesOf (outs m c)
    | ⟨13, _⟩ => codesH (hid m c)
    | ⟨14, _⟩ => scalesOf (hid m c)
  Φ t := PhiN m c t.val
  q _ := fullShare
  owed _ := 0

/-- The arrays at the entry are what the lines before the region leave. -/
theorem A_eq (c : Dev nD) (w : Fin cfg0.W) : (dats m 0 c).A w = V m c (Pipeline.arrRef spec0 w) := by dsimp only [dats]

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = iblk m c 8 t := by dsimp only [dats]
/-- What window 9 holds after a point. -/
theorem after0_9 (c : Dev nD) (t : Fin cfg0.N) : (dats m 0 c).after 9 t = iblk m c 9 t := by dsimp only [dats]
/-- What window 10 holds after a point. -/
theorem after0_10 (c : Dev nD) (t : Fin cfg0.N) : (dats m 0 c).after 10 t = iblk m c 10 t := by dsimp only [dats]
/-- What window 11 holds after a point. -/
theorem after0_11 (c : Dev nD) (t : Fin cfg0.N) : (dats m 0 c).after 11 t = codesO (outs m c) := by dsimp only [dats]
/-- What window 12 holds after a point. -/
theorem after0_12 (c : Dev nD) (t : Fin cfg0.N) : (dats m 0 c).after 12 t = scalesOf (outs m c) := by dsimp only [dats]
/-- What window 13 holds after a point. -/
theorem after0_13 (c : Dev nD) (t : Fin cfg0.N) : (dats m 0 c).after 13 t = codesH (hid m c) := by dsimp only [dats]
/-- What window 14 holds after a point. -/
theorem after0_14 (c : Dev nD) (t : Fin cfg0.N) : (dats m 0 c).after 14 t = scalesOf (hid m c) := by dsimp only [dats]

/-- An input's staging buffer holds its block at every point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What window 7 holds before a point. -/
theorem before0_7 (c : Dev nD) (t : Fin cfg0.N) (d) : (dats m 0 c).before 7 t d = iblk m c 7 t :=
  before0_7_of m (dats m 0 c) (A_eq m c 7) (after0_7 m c) t d
/-- What window 8 holds before a point. -/
theorem before0_8 (c : Dev nD) (t : Fin cfg0.N) (d) : (dats m 0 c).before 8 t d = iblk m c 8 t :=
  before0_8_of m (dats m 0 c) (A_eq m c 8) (after0_8 m c) t d
/-- What window 9 holds before a point. -/
theorem before0_9 (c : Dev nD) (t : Fin cfg0.N) (d) : (dats m 0 c).before 9 t d = iblk m c 9 t :=
  before0_9_of m (dats m 0 c) (A_eq m c 9) (after0_9 m c) t d
/-- What window 10 holds before a point. -/
theorem before0_10 (c : Dev nD) (t : Fin cfg0.N) (d) : (dats m 0 c).before 10 t d = iblk m c 10 t :=
  before0_10_of m (dats m 0 c) (A_eq m c 10) (after0_10 m c) t d

/-! ## The outputs are idle until the last point -/

/-- Window 11 is left alone at a point that is not the last. -/
theorem idle0_11 (t : Fin cfg0.N) (h : ¬cond0_1 (grid0.coords t)) : cfg0.idle 11 (grid0.coords t) = true := by
  show (!(k0_cond2 (grid0.coords t) == 1#1)) = true
  rw [Bool.not_eq_true', beq_eq_false_iff_ne]; exact h
/-- Window 11 is stored at the last point. -/
theorem live0_11 (t : Fin cfg0.N) (h : cond0_1 (grid0.coords t)) : cfg0.idle 11 (grid0.coords t) = false := by
  show (!(k0_cond2 (grid0.coords t) == 1#1)) = false
  rw [show k0_cond2 (grid0.coords t) = 1#1 from h]; rfl
/-- Window 11 is not written back at a point that is not the last. -/
theorem noflush0_11 (t : Fin cfg0.N) (h : t.val % 12 ≠ 11) : (cfg0.win 11).flush t = false :=
  Bool.eq_false_iff.mpr fun e => h ((flush0_11 t).mp e)
/-- Output window 11's buffer comes to every point as it was. -/
theorem before0_11 (c : Dev nD) (t : Fin cfg0.N) (d) : (dats m 0 c).before 11 t d = d := by
  have hN : t.val < 12 := lt12 t
  rw [(dats m 0 c).before_idle_run 11 (fun _ => rfl) d t.val t le_rfl (fun j _ hj =>
    ⟨idle0_11 j (fun e => by have := (hcond0_1 j).mp e; omega), noflush0_11 j (by omega)⟩)]
  unfold Dat.before
  rw [if_neg (by exact Bool.false_ne_true), if_pos (by show t.val - t.val = 0; omega)]
/-- Window 12 is left alone at a point that is not the last. -/
theorem idle0_12 (t : Fin cfg0.N) (h : ¬cond0_1 (grid0.coords t)) : cfg0.idle 12 (grid0.coords t) = true := by
  show (!(k0_cond2 (grid0.coords t) == 1#1)) = true
  rw [Bool.not_eq_true', beq_eq_false_iff_ne]; exact h
/-- Window 12 is stored at the last point. -/
theorem live0_12 (t : Fin cfg0.N) (h : cond0_1 (grid0.coords t)) : cfg0.idle 12 (grid0.coords t) = false := by
  show (!(k0_cond2 (grid0.coords t) == 1#1)) = false
  rw [show k0_cond2 (grid0.coords t) = 1#1 from h]; rfl
/-- Window 12 is not written back at a point that is not the last. -/
theorem noflush0_12 (t : Fin cfg0.N) (h : t.val % 12 ≠ 11) : (cfg0.win 12).flush t = false :=
  Bool.eq_false_iff.mpr fun e => h ((flush0_12 t).mp e)
/-- Output window 12's buffer comes to every point as it was. -/
theorem before0_12 (c : Dev nD) (t : Fin cfg0.N) (d) : (dats m 0 c).before 12 t d = d := by
  have hN : t.val < 12 := lt12 t
  rw [(dats m 0 c).before_idle_run 12 (fun _ => rfl) d t.val t le_rfl (fun j _ hj =>
    ⟨idle0_12 j (fun e => by have := (hcond0_1 j).mp e; omega), noflush0_12 j (by omega)⟩)]
  unfold Dat.before
  rw [if_neg (by exact Bool.false_ne_true), if_pos (by show t.val - t.val = 0; omega)]
/-- Window 13 is left alone at a point that is not the last. -/
theorem idle0_13 (t : Fin cfg0.N) (h : ¬cond0_1 (grid0.coords t)) : cfg0.idle 13 (grid0.coords t) = true := by
  show (!(k0_cond2 (grid0.coords t) == 1#1)) = true
  rw [Bool.not_eq_true', beq_eq_false_iff_ne]; exact h
/-- Window 13 is stored at the last point. -/
theorem live0_13 (t : Fin cfg0.N) (h : cond0_1 (grid0.coords t)) : cfg0.idle 13 (grid0.coords t) = false := by
  show (!(k0_cond2 (grid0.coords t) == 1#1)) = false
  rw [show k0_cond2 (grid0.coords t) = 1#1 from h]; rfl
/-- Window 13 is not written back at a point that is not the last. -/
theorem noflush0_13 (t : Fin cfg0.N) (h : t.val % 12 ≠ 11) : (cfg0.win 13).flush t = false :=
  Bool.eq_false_iff.mpr fun e => h ((flush0_13 t).mp e)
/-- Output window 13's buffer comes to every point as it was. -/
theorem before0_13 (c : Dev nD) (t : Fin cfg0.N) (d) : (dats m 0 c).before 13 t d = d := by
  have hN : t.val < 12 := lt12 t
  rw [(dats m 0 c).before_idle_run 13 (fun _ => rfl) d t.val t le_rfl (fun j _ hj =>
    ⟨idle0_13 j (fun e => by have := (hcond0_1 j).mp e; omega), noflush0_13 j (by omega)⟩)]
  unfold Dat.before
  rw [if_neg (by exact Bool.false_ne_true), if_pos (by show t.val - t.val = 0; omega)]
/-- Window 14 is left alone at a point that is not the last. -/
theorem idle0_14 (t : Fin cfg0.N) (h : ¬cond0_1 (grid0.coords t)) : cfg0.idle 14 (grid0.coords t) = true := by
  show (!(k0_cond2 (grid0.coords t) == 1#1)) = true
  rw [Bool.not_eq_true', beq_eq_false_iff_ne]; exact h
/-- Window 14 is stored at the last point. -/
theorem live0_14 (t : Fin cfg0.N) (h : cond0_1 (grid0.coords t)) : cfg0.idle 14 (grid0.coords t) = false := by
  show (!(k0_cond2 (grid0.coords t) == 1#1)) = false
  rw [show k0_cond2 (grid0.coords t) = 1#1 from h]; rfl
/-- Window 14 is not written back at a point that is not the last. -/
theorem noflush0_14 (t : Fin cfg0.N) (h : t.val % 12 ≠ 11) : (cfg0.win 14).flush t = false :=
  Bool.eq_false_iff.mpr fun e => h ((flush0_14 t).mp e)
/-- Output window 14's buffer comes to every point as it was. -/
theorem before0_14 (c : Dev nD) (t : Fin cfg0.N) (d) : (dats m 0 c).before 14 t d = d := by
  have hN : t.val < 12 := lt12 t
  rw [(dats m 0 c).before_idle_run 14 (fun _ => rfl) d t.val t le_rfl (fun j _ hj =>
    ⟨idle0_14 j (fun e => by have := (hcond0_1 j).mp e; omega), noflush0_14 j (by omega)⟩)]
  unfold Dat.before
  rw [if_neg (by exact Bool.false_ne_true), if_pos (by show t.val - t.val = 0; omega)]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 19200000 in
/-- The body at any point of the grid: its two conditions in closed form say which of the three runs applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  have hN : t.val < 12 := lt12 t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases hc0 : cond0_0 (grid0.coords t)
  · have h0 : t.val % 12 = 0 := (hcond0_0 t).mp hc0
    have hc1 : ¬cond0_1 (grid0.coords t) := fun h => by have := (hcond0_1 t).mp h; omega
    have h1 : t.val % 12 ≠ 11 := by omega
    rw [(dats m 0 c).leavesExact_idle 11 t (idle0_11 t hc1) (noflush0_11 t h1)]
    rw [(dats m 0 c).leavesExact_idle 12 t (idle0_12 t hc1) (noflush0_12 t h1)]
    rw [(dats m 0 c).leavesExact_idle 13 t (idle0_13 t hc1) (noflush0_13 t h1)]
    rw [(dats m 0 c).leavesExact_idle 14 t (idle0_14 t hc1) (noflush0_14 t h1)]
    simp only [before0_11, before0_12, before0_13, before0_14]
    unfold PhiN
    iintro ⟨⟨⟨%d16, %d17, %d18, %d19, %hd, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hs := hd.step
    rw [← wins_at m c t] at hs
    iapply (bodyA c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) d19 hc0 hc1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexists _; iexact HS2
    isplitl [HS3]; · iexact HS3
    iintro ⟨H0, H1, H2, H3, H4, H5, H6, H7, H8, H9, H10, H11, H12, H13, H14, HS0, ⟨%e17, HS1⟩, ⟨%e18, HS2⟩, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  have h0 : t.val % 12 ≠ 0 := fun h => hc0 ((hcond0_0 t).mpr h)
  by_cases hc1 : cond0_1 (grid0.coords t)
  · have h1 : t.val % 12 = 11 := (hcond0_1 t).mp hc1
    rw [show (dats m 0 c).leavesExact 11 t = owns (c : Thread nD τ) (ms0_11 t) fullShare ((dats m 0 c).after 11 t) from by
      unfold Dat.leavesExact; rw [live0_11 t hc1], after0_11]
    rw [show (dats m 0 c).leavesExact 12 t = owns (c : Thread nD τ) (ms0_12 t) fullShare ((dats m 0 c).after 12 t) from by
      unfold Dat.leavesExact; rw [live0_12 t hc1], after0_12]
    rw [show (dats m 0 c).leavesExact 13 t = owns (c : Thread nD τ) (ms0_13 t) fullShare ((dats m 0 c).after 13 t) from by
      unfold Dat.leavesExact; rw [live0_13 t hc1], after0_13]
    rw [show (dats m 0 c).leavesExact 14 t = owns (c : Thread nD τ) (ms0_14 t) fullShare ((dats m 0 c).after 14 t) from by
      unfold Dat.leavesExact; rw [live0_14 t hc1], after0_14]
    rw [← outs_at m c t]
    unfold PhiN
    iintro ⟨⟨⟨%d16, %d17, %d18, %d19, %hd, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain rfl : d16 = wins m c := hd.1 (by omega)
    have hs := hd.step
    have hH : ∀ (n : Fin 12) (r : Fin 192) (k : Fin 512), tileStep (grid0.coords t) (iblk m c 5 t) (iblk m c 6 t) (iblk m c 7 t) (wins m c) d19 n r k = hid m c r (colOf n.val n.isLt k) :=
      fun n r k => hs.2 n (by omega) r k
    iapply (bodyC c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (wins m c) d19 hc0 hc1 (hid m c) hH Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexists _; iexact HS1
    isplitl [HS2]; · iexists _; iexact HS2
    isplitl [HS3]; · iexact HS3
    iintro ⟨H0, H1, H2, H3, H4, H5, H6, H7, H8, H9, H10, H11, H12, H13, H14, HS0, ⟨%e17, HS1⟩, ⟨%e18, HS2⟩, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have h1 : t.val % 12 ≠ 11 := fun h => hc1 ((hcond0_1 t).mpr h)
    rw [(dats m 0 c).leavesExact_idle 11 t (idle0_11 t hc1) (noflush0_11 t h1)]
    rw [(dats m 0 c).leavesExact_idle 12 t (idle0_12 t hc1) (noflush0_12 t h1)]
    rw [(dats m 0 c).leavesExact_idle 13 t (idle0_13 t hc1) (noflush0_13 t h1)]
    rw [(dats m 0 c).leavesExact_idle 14 t (idle0_14 t hc1) (noflush0_14 t h1)]
    simp only [before0_11, before0_12, before0_13, before0_14]
    unfold PhiN
    iintro ⟨⟨⟨%d16, %d17, %d18, %d19, %hd, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain rfl : d16 = wins m c := hd.1 (by omega)
    have hs := hd.step
    iapply (bodyB c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (wins m c) d19 hc0 hc1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexists _; iexact HS1
    isplitl [HS2]; · iexists _; iexact HS2
    isplitl [HS3]; · iexact HS3
    iintro ⟨H0, H1, H2, H3, H4, H5, H6, H7, H8, H9, H10, H11, H12, H13, H14, HS0, ⟨%e17, HS1⟩, ⟨%e18, HS2⟩, HS3⟩
    isplitl [HS0 HS1 HS2 HS3 Hg]
    · isplitl [HS0 HS1 HS2 HS3]
      · iexists _, _, _, _
        isplitr
        swap
        · isplitl [HS0]; · iexact HS0
          isplitl [HS1]; · iexact HS1
          isplitl [HS2]; · iexact HS2
          iexact HS3
        ipureintro; exact hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiN m c 0 from rfl, PhiA0_eq]
  unfold PhiN
  iintro ⟨⟨⟨%d16, HS0⟩, ⟨%d17, HS1⟩, ⟨%d18, HS2⟩, ⟨%d19, HS3⟩⟩, Hg⟩
  isplitl [HS0 HS1 HS2 HS3]
  · iexists d16, d17, d18, d19
    isplitr
    · ipureintro; exact ⟨fun h => absurd rfl h, fun k hk => absurd hk (Nat.not_lt_zero _)⟩
    isplitl [HS0]; · iexact HS0
    isplitl [HS1]; · iexact HS1
    isplitl [HS2]; · iexact HS2
    iexact HS3
  iexact Hg

/-- After the last point the invariant gives the scratch back. -/
theorem hout (c : Dev nD) : (dats m 0 c).Φ (Fin.last cfg0.N) ⊢ Pipeline.ΦA spec0 c := by
  rw [show (dats m 0 c).Φ (Fin.last cfg0.N) = PhiN m c cfg0.N from rfl, PhiA0_eq]
  unfold PhiN
  iintro ⟨⟨%d16, %d17, %d18, %d19, -, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run -/

set_option backward.isDefEq.respectTransparency.types false in
set_option maxHeartbeats 800000 in
/-- The run of the program: each array of the pipeline after it, and every other buffer as the lines after the region
    leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Runs

end
-- ==== Proof.IdealResults.lean ====
/- What the program's results hold after the run, and what the arrays the region finds are of the arguments. -/
module

public import proofs.«01_k».proof.Proof.IdealDats
public import Idealize.ShloMosaic.Lib.Pointwise
public import Idealize.ShloMosaic.Lib.Claim

@[expose] public section

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The arrays the region finds -/

/-- A vector of 6144 as a row holds the vector. -/
theorem row_hidden (v : S6144.Idx → EReal) (f : Fin 6144) : shapeCast S1x6144 v shapeCasts_S6144_S1x6144 (ix2 (0 : Fin 1) f) = v (ix1 f) := by
  pointwise
/-- A vector of 160 as a row holds the vector. -/
theorem row_out (v : S160.Idx → EReal) (d : Fin 160) : shapeCast S1x160 v shapeCasts_S160_S1x160 (ix2 (0 : Fin 1) d) = v (ix1 d) := by
  pointwise
/-- The new codes as the region finds them. -/
theorem V_v0 (a : Fin 4) (h : Fin 3) (d : Fin 160) (t : Fin 256) : (V m c main_v0 : S4x3x160x256.Idx → EReal) (ix4 a h d t) = (m (c, main_arg0) : S4x256x3x160.Idx → EReal) (ix4 a t h d) := by
  have e : (V m c main_v0 : S4x3x160x256.Idx → EReal) = transpose S4x3x160x256 [0, 2, 3, 1] (m (c, main_arg0) : S4x256x3x160.Idx → EReal) transposes_S4x256x3x160_S4x3x160x256_0_2_3_1 := by
    show StableHlo.after (List.flatten [hostOps0]) _ _ = _
    simp only [hostOps0, List.flatten_cons, List.flatten_nil, List.append_nil]
    after_results
  rw [e]
  pointwise
/-- The new scales as the region finds them. -/
theorem V_v1 (a : Fin 4) (h : Fin 3) (t : Fin 256) : (V m c main_v1 : S3x4x256.Idx → EReal) (ix3 h a t) = (m (c, main_arg1) : S4x256x3.Idx → EReal) (ix3 a t h) := by
  have e : (V m c main_v1 : S3x4x256.Idx → EReal) = transpose S3x4x256 [2, 0, 1] (m (c, main_arg1) : S4x256x3.Idx → EReal) transposes_S4x256x3_S3x4x256_2_0_1 := by
    show StableHlo.after (List.flatten [hostOps0]) _ _ = _
    simp only [hostOps0, List.flatten_cons, List.flatten_nil, List.append_nil]
    after_results
  rw [e]
  pointwise
/-- The previous block's codes as the region finds them. -/
theorem V_v2 (a : Fin 4) (h : Fin 3) (t : Fin 16) (d : Fin 160) : (V m c main_v2 : S4x3x16x160.Idx → EReal) (ix4 a h t d) = (m (c, main_arg2) : S4x16x3x160.Idx → EReal) (ix4 a t h d) := by
  have e : (V m c main_v2 : S4x3x16x160.Idx → EReal) = transpose S4x3x16x160 [0, 2, 1, 3] (m (c, main_arg2) : S4x16x3x160.Idx → EReal) transposes_S4x16x3x160_S4x3x16x160_0_2_1_3 := by
    show StableHlo.after (List.flatten [hostOps0]) _ _ = _
    simp only [hostOps0, List.flatten_cons, List.flatten_nil, List.append_nil]
    after_results
  rw [e]
  pointwise
/-- The previous block's scales as the region finds them. -/
theorem V_v3 (a : Fin 4) (h : Fin 3) (t : Fin 16) : (V m c main_v3 : S3x4x16.Idx → EReal) (ix3 h a t) = (m (c, main_arg3) : S4x16x3.Idx → EReal) (ix3 a t h) := by
  have e : (V m c main_v3 : S3x4x16.Idx → EReal) = transpose S3x4x16 [2, 0, 1] (m (c, main_arg3) : S4x16x3.Idx → EReal) transposes_S4x16x3_S3x4x16_2_0_1 := by
    show StableHlo.after (List.flatten [hostOps0]) _ _ = _
    simp only [hostOps0, List.flatten_cons, List.flatten_nil, List.append_nil]
    after_results
  rw [e]
  pointwise
/-- The first layer's scales as the region finds them. -/
theorem V_v4 (f : Fin 6144) : (V m c main_v4 : S1x6144.Idx → EReal) (ix2 (0 : Fin 1) f) = (m (c, main_arg6) : S6144.Idx → EReal) (ix1 f) := by
  have e : (V m c main_v4 : S1x6144.Idx → EReal) = shapeCast S1x6144 (m (c, main_arg6) : S6144.Idx → EReal) shapeCasts_S6144_S1x6144 := by
    show StableHlo.after (List.flatten [hostOps0]) _ _ = _
    simp only [hostOps0, List.flatten_cons, List.flatten_nil, List.append_nil]
    after_results
    rfl
  rw [e]
  exact row_hidden _ f
/-- The first layer's biases as the region finds them. -/
theorem V_v5 (f : Fin 6144) : (V m c main_v5 : S1x6144.Idx → EReal) (ix2 (0 : Fin 1) f) = (m (c, main_arg7) : S6144.Idx → EReal) (ix1 f) := by
  have e : (V m c main_v5 : S1x6144.Idx → EReal) = shapeCast S1x6144 (m (c, main_arg7) : S6144.Idx → EReal) shapeCasts_S6144_S1x6144 := by
    show StableHlo.after (List.flatten [hostOps0]) _ _ = _
    simp only [hostOps0, List.flatten_cons, List.flatten_nil, List.append_nil]
    after_results
    rfl
  rw [e]
  exact row_hidden _ f
/-- The second layer's weights as the region finds them. -/
theorem V_v6 (d : Fin 160) (f : Fin 6144) : (V m c main_v6 : S160x6144.Idx → EReal) (ix2 d f) = (m (c, main_arg8) : S6144x160.Idx → EReal) (ix2 f d) := by
  have e : (V m c main_v6 : S160x6144.Idx → EReal) = transpose S160x6144 [1, 0] (m (c, main_arg8) : S6144x160.Idx → EReal) transposes_S6144x160_S160x6144_1_0 := by
    show StableHlo.after (List.flatten [hostOps0]) _ _ = _
    simp only [hostOps0, List.flatten_cons, List.flatten_nil, List.append_nil]
    after_results
  rw [e]
  pointwise
/-- The second layer's scales as the region finds them. -/
theorem V_v7 (d : Fin 160) : (V m c main_v7 : S1x160.Idx → EReal) (ix2 (0 : Fin 1) d) = (m (c, main_arg9) : S160.Idx → EReal) (ix1 d) := by
  have e : (V m c main_v7 : S1x160.Idx → EReal) = shapeCast S1x160 (m (c, main_arg9) : S160.Idx → EReal) shapeCasts_S160_S1x160 := by
    show StableHlo.after (List.flatten [hostOps0]) _ _ = _
    simp only [hostOps0, List.flatten_cons, List.flatten_nil, List.append_nil]
    after_results
    rfl
  rw [e]
  exact row_out _ d
/-- The second layer's biases as the region finds them. -/
theorem V_v8 (d : Fin 160) : (V m c main_v8 : S1x160.Idx → EReal) (ix2 (0 : Fin 1) d) = (m (c, main_arg10) : S160.Idx → EReal) (ix1 d) := by
  have e : (V m c main_v8 : S1x160.Idx → EReal) = shapeCast S1x160 (m (c, main_arg10) : S160.Idx → EReal) shapeCasts_S160_S1x160 := by
    show StableHlo.after (List.flatten [hostOps0]) _ _ = _
    simp only [hostOps0, List.flatten_cons, List.flatten_nil, List.append_nil]
    after_results
    rfl
  rw [e]
  exact row_out _ d

/-! ## The arrays the region leaves -/

/-- The region leaves the second layer's codes. -/
theorem out11 : ((dats m 0 c).arrAt 11 cfg0.N : S4x3x16x160.Idx → EReal) = codesO (outs m c) :=
  Dat.arrAt_eq_of_after_last (dats m 0 c) 11 (⟨11, by decide +kernel⟩ : Fin cfg0.N) (by decide +kernel) _ fun j => rfl
/-- The region leaves the second layer's scales. -/
theorem out12 : ((dats m 0 c).arrAt 12 cfg0.N : S3x4x16.Idx → EReal) = scalesOf (outs m c) :=
  Dat.arrAt_eq_of_after_last (dats m 0 c) 12 (⟨11, by decide +kernel⟩ : Fin cfg0.N) (by decide +kernel) _ fun j => rfl
/-- The region leaves the hidden layer's codes. -/
theorem out13 : ((dats m 0 c).arrAt 13 cfg0.N : S4x3x16x6144.Idx → EReal) = codesH (hid m c) :=
  Dat.arrAt_eq_of_after_last (dats m 0 c) 13 (⟨11, by decide +kernel⟩ : Fin cfg0.N) (by decide +kernel) _ fun j => rfl
/-- The region leaves the hidden layer's scales. -/
theorem out14 : ((dats m 0 c).arrAt 14 cfg0.N : S3x4x16.Idx → EReal) = scalesOf (hid m c) :=
  Dat.arrAt_eq_of_after_last (dats m 0 c) 14 (⟨11, by decide +kernel⟩ : Fin cfg0.N) (by decide +kernel) _ fun j => rfl

/-! ## The results -/

/-- Codes in the order batch, window, head. -/
def resO (O : Fin 192 → Fin 160 → EReal) : S4x16x3x160.Idx → EReal := fun y => codeAt (O (rowOf (y 0) (y 2) (y 1)) (y 3)) (expOf (O (rowOf (y 0) (y 2) (y 1))))
/-- The hidden layer's codes in the order batch, window, head. -/
def resH (H : Fin 192 → Fin 6144 → EReal) : S4x16x3x6144.Idx → EReal := fun y => codeAt (H (rowOf (y 0) (y 2) (y 1)) (y 3)) (expOf (H (rowOf (y 0) (y 2) (y 1))))
/-- Scales in the order batch, window, head. -/
def resS {n : Nat} (H : Fin 192 → Fin n → EReal) : S4x16x3.Idx → EReal := fun y => scaleAt (expOf (H (rowOf (y 0) (y 2) (y 1))))

/-- The transpose, entry by entry. -/
theorem swapO (v : S4x3x16x160.Idx → EReal) (a : Fin 4) (b : Fin 16) (h : Fin 3) (d : Fin 160) :
    transpose S4x16x3x160 [0, 2, 1, 3] v transposes_S4x3x16x160_S4x16x3x160_0_2_1_3 (ix4 a b h d) = v (ix4 a h b d) := by
  pointwise
/-- The transpose, entry by entry. -/
theorem swapH (v : S4x3x16x6144.Idx → EReal) (a : Fin 4) (b : Fin 16) (h : Fin 3) (f : Fin 6144) :
    transpose S4x16x3x6144 [0, 2, 1, 3] v transposes_S4x3x16x6144_S4x16x3x6144_0_2_1_3 (ix4 a b h f) = v (ix4 a h b f) := by
  pointwise
/-- The transpose, entry by entry. -/
theorem swapS (v : S3x4x16.Idx → EReal) (a : Fin 4) (b : Fin 16) (h : Fin 3) :
    transpose S4x16x3 [1, 2, 0] v transposes_S3x4x16_S4x16x3_1_2_0 (ix3 a b h) = v (ix3 h a b) := by
  pointwise
/-- The second layer's codes transposed are those in the order batch, window, head. -/
theorem turnO (O : Fin 192 → Fin 160 → EReal) : transpose S4x16x3x160 [0, 2, 1, 3] (codesO O) transposes_S4x3x16x160_S4x16x3x160_0_2_1_3 = resO O :=
  funext fun y => (congrArg _ (eq_ix4 y)).trans (swapO _ (y 0) (y 1) (y 2) (y 3))
/-- The hidden layer's codes transposed are those in the order batch, window, head. -/
theorem turnH (H : Fin 192 → Fin 6144 → EReal) : transpose S4x16x3x6144 [0, 2, 1, 3] (codesH H) transposes_S4x3x16x6144_S4x16x3x6144_0_2_1_3 = resH H :=
  funext fun y => (congrArg _ (eq_ix4 y)).trans (swapH _ (y 0) (y 1) (y 2) (y 3))
/-- Scales transposed are those in the order batch, window, head. -/
theorem turnS {n : Nat} (H : Fin 192 → Fin n → EReal) : transpose S4x16x3 [1, 2, 0] (scalesOf H) transposes_S3x4x16_S4x16x3_1_2_0 = resS H :=
  funext fun y => (congrArg _ (eq_ix3 y)).trans (swapS _ (y 0) (y 1) (y 2))

section Tail

variable (A : Valuation τ sig (Elt Ideal))

/-- What the lines after the region leave in result 0, counting from zero: a transpose of what the region left. -/
theorem tail10 : (StableHlo.after (List.flatten [hostOps1]) A (Proc.devRef .tc main_v10) : S4x16x3x160.Idx → EReal)
    = transpose S4x16x3x160 [0, 2, 1, 3] (A (Proc.devRef .tc main_v9_0) : S4x3x16x160.Idx → EReal) transposes_S4x3x16x160_S4x16x3x160_0_2_1_3 := by
  simp only [hostOps1, List.flatten_cons, List.flatten_nil, List.append_nil]
  after_results
/-- What the lines after the region leave in result 1, counting from zero: a transpose of what the region left. -/
theorem tail11 : (StableHlo.after (List.flatten [hostOps1]) A (Proc.devRef .tc main_v11) : S4x16x3.Idx → EReal)
    = transpose S4x16x3 [1, 2, 0] (A (Proc.devRef .tc main_v9_1) : S3x4x16.Idx → EReal) transposes_S3x4x16_S4x16x3_1_2_0 := by
  simp only [hostOps1, List.flatten_cons, List.flatten_nil, List.append_nil]
  after_results
/-- What the lines after the region leave in result 2, counting from zero: a transpose of what the region left. -/
theorem tail12 : (StableHlo.after (List.flatten [hostOps1]) A (Proc.devRef .tc main_v12) : S4x16x3x6144.Idx → EReal)
    = transpose S4x16x3x6144 [0, 2, 1, 3] (A (Proc.devRef .tc main_v9_2) : S4x3x16x6144.Idx → EReal) transposes_S4x3x16x6144_S4x16x3x6144_0_2_1_3 := by
  simp only [hostOps1, List.flatten_cons, List.flatten_nil, List.append_nil]
  after_results
/-- What the lines after the region leave in result 3, counting from zero: a transpose of what the region left. -/
theorem tail13 : (StableHlo.after (List.flatten [hostOps1]) A (Proc.devRef .tc main_v13) : S4x16x3.Idx → EReal)
    = transpose S4x16x3 [1, 2, 0] (A (Proc.devRef .tc main_v9_3) : S3x4x16.Idx → EReal) transposes_S3x4x16_S4x16x3_1_2_0 := by
  simp only [hostOps1, List.flatten_cons, List.flatten_nil, List.append_nil]
  after_results

end Tail

/-- The contents after the region. -/
def exitV : Valuation τ sig (Elt Ideal) := Pipeline.withArrays (cfgs 0).spec c (V0 m c) fun w => (dats m 0 c).arrAt w (cfgs 0).N
/-- A window's array after the region. -/
theorem exit_arr (w : Fin (cfgs 0).W) : exitV m c (Proc.devRef .tc (Pipeline.arrRef (cfgs 0).spec w)) = (dats m 0 c).arrAt w (cfgs 0).N :=
  Pipeline.withArrays_arr (cfgs 0).spec launch0.win.arr_inj c (V0 m c) _ w

/-- The first result is the second layer's codes. -/
theorem res10 : (Pipeline.afterTail₀ cfgs (dats m) 0 (V0 m) [hostOps1] c main_v10 : S4x16x3x160.Idx → EReal) = resO (outs m c) :=
  (tail10 (exitV m c)).trans (by rw [show exitV m c (Proc.devRef .tc main_v9_0) = _ from exit_arr m c 11]; exact (congrArg (transpose S4x16x3x160 [0, 2, 1, 3] · _) (out11 m c)).trans (turnO _))
/-- The second result is the second layer's scales. -/
theorem res11 : (Pipeline.afterTail₀ cfgs (dats m) 0 (V0 m) [hostOps1] c main_v11 : S4x16x3.Idx → EReal) = resS (outs m c) :=
  (tail11 (exitV m c)).trans (by rw [show exitV m c (Proc.devRef .tc main_v9_1) = _ from exit_arr m c 12]; exact (congrArg (transpose S4x16x3 [1, 2, 0] · _) (out12 m c)).trans (turnS _))
/-- The third result is the hidden layer's codes. -/
theorem res12 : (Pipeline.afterTail₀ cfgs (dats m) 0 (V0 m) [hostOps1] c main_v12 : S4x16x3x6144.Idx → EReal) = resH (hid m c) :=
  (tail12 (exitV m c)).trans (by rw [show exitV m c (Proc.devRef .tc main_v9_2) = _ from exit_arr m c 13]; exact (congrArg (transpose S4x16x3x6144 [0, 2, 1, 3] · _) (out13 m c)).trans (turnH _))
/-- The fourth result is the hidden layer's scales. -/
theorem res13 : (Pipeline.afterTail₀ cfgs (dats m) 0 (V0 m) [hostOps1] c main_v13 : S4x16x3.Idx → EReal) = resS (hid m c) :=
  (tail13 (exitV m c)).trans (by rw [show exitV m c (Proc.devRef .tc main_v9_3) = _ from exit_arr m c 14]; exact (congrArg (transpose S4x16x3 [1, 2, 0] · _) (out14 m c)).trans (turnS _))

/-- The run of the program: its four results, and its arguments as they were. -/
theorem run_results : θ_run defs (onTc (τ := τ) (main (F := Ideal))) (s₀ m ρ) (fun r => ∀ c : Dev nD,
    ((r.2.mem (c, main_v10) : S4x16x3x160.Idx → EReal) = resO (outs m c) ∧ (r.2.mem (c, main_v11) : S4x16x3.Idx → EReal) = resS (outs m c)
      ∧ (r.2.mem (c, main_v12) : S4x16x3x6144.Idx → EReal) = resH (hid m c) ∧ (r.2.mem (c, main_v13) : S4x16x3.Idx → EReal) = resS (hid m c))) := by
  refine (θ_run defs _ _).mono ?_ (run_main m ρ)
  rintro r h c
  have hc := (h c).2
  exact ⟨(hc main_v10 (Pipeline.mem_restRefs_of main_v10 (by decide) (by decide))).trans (res10 m c),
    (hc main_v11 (Pipeline.mem_restRefs_of main_v11 (by decide) (by decide))).trans (res11 m c),
    (hc main_v12 (Pipeline.mem_restRefs_of main_v12 (by decide) (by decide))).trans (res12 m c),
    (hc main_v13 (Pipeline.mem_restRefs_of main_v13 (by decide) (by decide))).trans (res13 m c)⟩

end Cert.KernelIdeal.Runs

end
-- ==== Proof.RefRead.lean ====
/- The reference's values entry by entry, in the terms the kernel's are read in. -/
module

public import proofs.«01_k».proof.Proof.Gen.ReferenceIdeal.Value
public import proofs.«01_k».proof.Proof.IdealOut
public import Idealize.ShloMosaic.Lib.Pointwise

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic
open Cert.KernelIdeal.Runs (actE foldMax expOf codeAt scaleAt outAt)

/-- The token is one of the 32. -/
theorem tok_lt (k : Fin 5120) : k.val / 160 < 32 := by omega
/-- The feature is one of the 160. -/
theorem feat_lt (k : Fin 5120) : k.val % 160 < 160 := by omega
/-- The row is one of the 192. -/
theorem row_lt (a : Fin 4) (b : Fin 16) (h : Fin 3) : a.val * 48 + b.val * 3 + h.val < 192 := by omega
/-- The batch is one of the four. -/
theorem batch_lt (r : Fin 192) : r.val / 48 < 4 := by omega
/-- The head is one of the three. -/
theorem head_lt (r : Fin 192) : r.val % 3 < 3 := by omega
/-- The token of a column of the flattened windows. -/
def tokOf (k : Fin 5120) : Fin 32 := ⟨k.val / 160, tok_lt k⟩
/-- The feature of a column of the flattened windows. -/
def featOf (k : Fin 5120) : Fin 160 := ⟨k.val % 160, feat_lt k⟩
/-- The row of a batch, a window and a head. -/
def rowAt (a : Fin 4) (b : Fin 16) (h : Fin 3) : Fin 192 := ⟨a.val * 48 + b.val * 3 + h.val, row_lt a b h⟩

/-- The token is one of the 256. -/
theorem early_lt (w : Fin 16) (j : Fin 32) (h : j.val < 16) : (w.val - 1) * 16 + j.val < 256 := by omega
/-- The token is one of the 256. -/
theorem late_lt (w : Fin 16) (j : Fin 32) : w.val * 16 + (j.val - 16) < 256 := by omega

/-- Token `j` of window `w`: the 16 tokens before the window's own block, then the block; before the first block the
    tokens of the previous call. -/
def token (v0 : S4x256x3x160.Idx → EReal) (v2 : S4x256x3.Idx → EReal) (v6 : S4x16x3x160.Idx → EReal) (v8 : S4x16x3.Idx → EReal)
    (a : Fin 4) (w : Fin 16) (h : Fin 3) (j : Fin 32) (d : Fin 160) : EReal :=
  if hj : j.val < 16 then
    if w.val < 1 then v6 (ix4 a ⟨j.val, hj⟩ h d) * v8 (ix3 a ⟨j.val, hj⟩ h)
    else v0 (ix4 a ⟨(w.val - 1) * 16 + j.val, early_lt w j hj⟩ h d) * v2 (ix3 a ⟨(w.val - 1) * 16 + j.val, early_lt w j hj⟩ h)
  else v0 (ix4 a ⟨w.val * 16 + (j.val - 16), late_lt w j⟩ h d) * v2 (ix3 a ⟨w.val * 16 + (j.val - 16), late_lt w j⟩ h)

/-- The window is one of the sixteen. -/
theorem win_lt (r : Fin 192) : r.val / 3 % 16 < 16 := by omega

/-- The first layer before its activation. -/
theorem pay5_apply (v0 : Vec Ideal S4x256x3x160 .fp8e4m3) (v2 : Vec Ideal S4x256x3 .f32) (v6 : Vec Ideal S4x16x3x160 .fp8e4m3) (v8 : Vec Ideal S4x16x3 .f32)
    (v17 : Vec Ideal S32x160 .f32) (v25 : Vec Ideal S32x160x6144 .fp8e4m3) (v29 v33 : Vec Ideal S6144 .f32) (r : Fin 192) (c : Fin 6144) :
    k0_pay5 v0 v2 v6 v8 v17 v25 v29 v33 (ix2 r c) = (∑ x : Fin 5120, (token v0 v2 v6 v8 ⟨r.val / 48, batch_lt r⟩ ⟨r.val / 3 % 16, win_lt r⟩ ⟨r.val % 3, head_lt r⟩ (tokOf x) (featOf x)
      + v17 (ix2 (tokOf x) (featOf x))) * v25 (ix3 (tokOf x) (featOf x) c)) * v29 (ix1 c) + v33 (ix1 c) := by
  pointwise [k0_pay5]
  rfl

/-- The activation. -/
theorem pay6_apply (v : FVec Ideal S192x6144 .f32) (r : Fin 192) (f : Fin 6144) :
    k0_pay6 v (Scalar.ofBits .f32 0x3F000000#32) (ix2 r f) = actE (v (ix2 r f)) := by
  pointwise [k0_pay6]
  rfl

section Hidden

variable (v : FVec Ideal S192x6144 .f32) (c : EReal) (R : Fin 192 → Fin 6144 → EReal) (hR : ∀ r f, k0_pay6 v c (ix2 r f) = R r f)

include hR
/-- The exponents of the hidden layer's rows. -/
theorem pay7_apply (r : Fin 192) : k0_pay7 v c (ix2 r (0 : Fin 1)) = expOf (R r) := by
  have h : k0_pay7 v c (ix2 r (0 : Fin 1)) = expOf (fun x => k0_pay6 v c (ix2 r x)) := by
    pointwise [k0_pay7]
    rfl
  rw [h]; simp only [hR]
/-- The codes of the hidden layer. -/
theorem pay8_apply (r : Fin 192) (f : Fin 6144) : k0_pay8 v c (ix2 r f) = codeAt (R r f) (expOf (R r)) := by
  have h : k0_pay8 v c (ix2 r f) = codeAt (k0_pay6 v c (ix2 r f)) (k0_pay7 v c (ix2 r (0 : Fin 1))) := by
    pointwise [k0_pay8]
    rfl
  rw [h, hR, pay7_apply v c R hR]
end Hidden

/-- The scales of rows with the given exponents. -/
theorem pay9_apply (v : FVec Ideal S192x1 .f32) (r : Fin 192) : k0_pay9 v (ix2 r (0 : Fin 1)) = scaleAt (v (ix2 r (0 : Fin 1))) := by
  pointwise [k0_pay9]
  rfl

section Second

variable (v71 : FVec Ideal S192x1 .f32) (v81 : FVec Ideal S192x6144 .fp8e4m3) (v83 : Vec Ideal S6144x160 .fp8e4m3) (v87 v91 : Vec Ideal S160 .f32)
  (R : Fin 192 → Fin 6144 → EReal) (h71 : ∀ r, v71 (ix2 r (0 : Fin 1)) = expOf (R r)) (h81 : ∀ r f, v81 (ix2 r f) = codeAt (R r f) (expOf (R r)))

include h71 h81
/-- The second layer. -/
theorem pay10_apply (r : Fin 192) (d : Fin 160) : k0_pay10 v71 v81 v83 v87 v91 (ix2 r d) = outAt (R r) (fun f => v83 (ix2 f d)) (v87 (ix1 d)) (v91 (ix1 d)) := by
  have h : k0_pay10 v71 v81 v83 v87 v91 (ix2 r d) = (∑ x : Fin 6144, v81 (ix2 r x) * v83 (ix2 x d)) * k0_pay9 v71 (ix2 r (0 : Fin 1)) * v87 (ix1 d) + v91 (ix1 d) := by
    pointwise [k0_pay10]
  rw [h, pay9_apply, h71]
  simp only [h81]
  rfl
/-- The exponents of the second layer's rows. -/
theorem pay11_apply (r : Fin 192) : k0_pay11 v71 v81 v83 v87 v91 (ix2 r (0 : Fin 1)) = expOf (fun d : Fin 160 => outAt (R r) (fun f => v83 (ix2 f d)) (v87 (ix1 d)) (v91 (ix1 d))) := by
  have h : k0_pay11 v71 v81 v83 v87 v91 (ix2 r (0 : Fin 1)) = expOf (fun d : Fin 160 => k0_pay10 v71 v81 v83 v87 v91 (ix2 r d)) := by
    pointwise [k0_pay11]
    rfl
  rw [h]; simp only [pay10_apply v71 v81 v83 v87 v91 R h71 h81]
/-- The codes of the second layer. -/
theorem code_apply (a : Fin 4) (b : Fin 16) (h : Fin 3) (d : Fin 160) :
    k0_pay1 (k0_pay10 v71 v81 v83 v87 v91) (k0_pay12 v71 v81 v83 v87 v91) (ix4 a b h d)
      = codeAt (outAt (R (rowAt a b h)) (fun f => v83 (ix2 f d)) (v87 (ix1 d)) (v91 (ix1 d))) (expOf (fun d : Fin 160 => outAt (R (rowAt a b h)) (fun f => v83 (ix2 f d)) (v87 (ix1 d)) (v91 (ix1 d)))) := by
  have h1 : ∀ v w : FVec Ideal S192x160 .f32, k0_pay1 v w (ix4 a b h d) = min (Ideal.ofBits FTy.f32 1138753536#32) (max (Ideal.ofBits FTy.f32 3286237184#32) (v (ix2 (rowAt a b h) d) * w (ix2 (rowAt a b h) d))) := by
    intro v w
    pointwise [k0_pay1]
    rfl
  have h2 : ∀ r : Fin 192, k0_pay12 v71 v81 v83 v87 v91 (ix2 r d) = FloatOps.exp2 (F := Ideal) (φ := .f32) (0 - k0_pay11 v71 v81 v83 v87 v91 (ix2 r (0 : Fin 1))) := by
    intro r
    pointwise [k0_pay12]
  rw [h1, h2, pay10_apply v71 v81 v83 v87 v91 R h71 h81, pay11_apply v71 v81 v83 v87 v91 R h71 h81]
  rfl
end Second

/-- Scales with the rows split into batch, window and head. -/
theorem pay2_apply (v : FVec Ideal S192x1 .f32) (a : Fin 4) (b : Fin 16) (h : Fin 3) : k0_pay2 v (ix3 a b h) = scaleAt (v (ix2 (rowAt a b h) (0 : Fin 1))) := by
  pointwise [k0_pay2]
  rfl
/-- Scales with the rows split into batch, window and head. -/
theorem pay4_apply (v : FVec Ideal S192x1 .f32) (a : Fin 4) (b : Fin 16) (h : Fin 3) : k0_pay4 v (ix3 a b h) = v (ix2 (rowAt a b h) (0 : Fin 1)) := by
  pointwise [k0_pay4]
  rfl
/-- Codes with the rows split into batch, window and head. -/
theorem pay3_apply (v : FVec Ideal S192x6144 .fp8e4m3) (a : Fin 4) (b : Fin 16) (h : Fin 3) (f : Fin 6144) : k0_pay3 v (ix4 a b h f) = v (ix2 (rowAt a b h) f) := by
  pointwise [k0_pay3]
  rfl

end Cert.ReferenceIdeal.Read

end
-- ==== Proof.RefEqual.lean ====
/- The program's results are the reference's: the hidden layer's rows agree, its columns summed in another order, and what
   follows is read from them alike. -/
module

public import proofs.«01_k».proof.Proof.IdealResults
public import proofs.«01_k».proof.Proof.RefRead

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Cert.KernelIdeal.Runs (actE foldMax expOf codeAt scaleAt outAt)

section Results

variable (a0 : Vec Ideal S4x256x3x160 .fp8e4m3) (a1 : Vec Ideal S4x256x3 .f32) (a2 : Vec Ideal S4x16x3x160 .fp8e4m3) (a3 : Vec Ideal S4x16x3 .f32)
  (a4 : Vec Ideal S32x160 .f32) (a5 : Vec Ideal S32x160x6144 .fp8e4m3) (a6 a7 : Vec Ideal S6144 .f32) (a8 : Vec Ideal S6144x160 .fp8e4m3) (a9 a10 : Vec Ideal S160 .f32)

/-- The hidden layer's row of a window. -/
def refHid (r : Fin 192) (f : Fin 6144) : EReal :=
  actE ((∑ x : Fin 5120, (token a0 a1 a2 a3 ⟨r.val / 48, batch_lt r⟩ ⟨r.val / 3 % 16, win_lt r⟩ ⟨r.val % 3, head_lt r⟩ (tokOf x) (featOf x)
      + a4 (ix2 (tokOf x) (featOf x))) * a5 (ix3 (tokOf x) (featOf x) f)) * a6 (ix1 f) + a7 (ix1 f))
/-- The second layer's row of a window. -/
def refOut (r : Fin 192) (d : Fin 160) : EReal := outAt (refHid a0 a1 a2 a3 a4 a5 a6 a7 r) (fun f => a8 (ix2 f d)) (a9 (ix1 d)) (a10 (ix1 d))

/-- The loads read the arguments whole. -/
theorem pay13_eq : k0_pay13 a0 a1 a2 a3 a4 a5 a6 a7 a8 a9 a10 = k0_pay5 a0 a1 a2 a3 a4 a5 a6 a7 := by
  unfold k0_pay13
  rw [View.ld_unit_zero (S := S4x256x3x160) hz0 _ a0, View.ld_unit_zero (S := S4x256x3) hz1 _ a1, View.ld_unit_zero (S := S4x16x3x160) hz2 _ a2,
    View.ld_unit_zero (S := S4x16x3) hz3 _ a3, View.ld_unit_zero (S := S32x160) hz4 _ a4, View.ld_unit_zero (S := S32x160x6144) hz5 _ a5,
    View.ld_unit_zero (S := S6144) hz6 _ a6, View.ld_unit_zero (S := S6144) hz7 _ a7]
/-- The hidden layer. -/
theorem hidden_apply (r : Fin 192) (f : Fin 6144) :
    k0_pay6 (k0_pay13 a0 a1 a2 a3 a4 a5 a6 a7 a8 a9 a10) (Scalar.ofBits .f32 0x3F000000#32) (ix2 r f) = refHid a0 a1 a2 a3 a4 a5 a6 a7 r f := by
  rw [pay6_apply, pay13_eq, pay5_apply]
  rfl
/-- The exponents of the hidden layer's rows. -/
theorem exps_apply (r : Fin 192) : k0_pay14 a0 a1 a2 a3 a4 a5 a6 a7 a8 a9 a10 (ix2 r (0 : Fin 1)) = expOf (refHid a0 a1 a2 a3 a4 a5 a6 a7 r) :=
  pay7_apply _ _ _ (hidden_apply a0 a1 a2 a3 a4 a5 a6 a7 a8 a9 a10) r
/-- The hidden layer's codes. -/
theorem codes_apply (r : Fin 192) (f : Fin 6144) :
    k0_pay15 a0 a1 a2 a3 a4 a5 a6 a7 a8 a9 a10 (ix2 r f) = codeAt (refHid a0 a1 a2 a3 a4 a5 a6 a7 r f) (expOf (refHid a0 a1 a2 a3 a4 a5 a6 a7 r)) :=
  pay8_apply _ _ _ (hidden_apply a0 a1 a2 a3 a4 a5 a6 a7 a8 a9 a10) r f

/-- The reference's first result: the second layer's codes. -/
theorem result1 (a : Fin 4) (b : Fin 16) (h : Fin 3) (d : Fin 160) : G11 a0 a1 a2 a3 a4 a5 a6 a7 a8 a9 a10 (ix4 a b h d)
    = codeAt (refOut a0 a1 a2 a3 a4 a5 a6 a7 a8 a9 a10 (rowAt a b h) d) (expOf (refOut a0 a1 a2 a3 a4 a5 a6 a7 a8 a9 a10 (rowAt a b h))) :=
  code_apply _ _ a8 a9 a10 _ (exps_apply a0 a1 a2 a3 a4 a5 a6 a7 a8 a9 a10) (codes_apply a0 a1 a2 a3 a4 a5 a6 a7 a8 a9 a10) a b h d
/-- The reference's second result: the second layer's scales. -/
theorem result2 (a : Fin 4) (b : Fin 16) (h : Fin 3) : G12 a0 a1 a2 a3 a4 a5 a6 a7 a8 a9 a10 (ix3 a b h)
    = scaleAt (expOf (refOut a0 a1 a2 a3 a4 a5 a6 a7 a8 a9 a10 (rowAt a b h))) :=
  (pay2_apply _ a b h).trans (congrArg scaleAt
    (pay11_apply _ _ a8 a9 a10 _ (exps_apply a0 a1 a2 a3 a4 a5 a6 a7 a8 a9 a10) (codes_apply a0 a1 a2 a3 a4 a5 a6 a7 a8 a9 a10) (rowAt a b h)))
/-- The reference's third result: the hidden layer's codes. -/
theorem result3 (a : Fin 4) (b : Fin 16) (h : Fin 3) (f : Fin 6144) : G13 a0 a1 a2 a3 a4 a5 a6 a7 a8 a9 a10 (ix4 a b h f)
    = codeAt (refHid a0 a1 a2 a3 a4 a5 a6 a7 (rowAt a b h) f) (expOf (refHid a0 a1 a2 a3 a4 a5 a6 a7 (rowAt a b h))) :=
  (pay3_apply _ a b h f).trans (codes_apply a0 a1 a2 a3 a4 a5 a6 a7 a8 a9 a10 _ f)
/-- The reference's fourth result: the hidden layer's scales. -/
theorem result4 (a : Fin 4) (b : Fin 16) (h : Fin 3) : G14 a0 a1 a2 a3 a4 a5 a6 a7 a8 a9 a10 (ix3 a b h)
    = scaleAt (expOf (refHid a0 a1 a2 a3 a4 a5 a6 a7 (rowAt a b h))) :=
  (pay4_apply _ a b h).trans ((pay9_apply _ _).trans (congrArg scaleAt (exps_apply a0 a1 a2 a3 a4 a5 a6 a7 a8 a9 a10 _)))

end Results

end Cert.ReferenceIdeal.Read

namespace Cert.Equal

open Cert.KernelIdeal Cert.KernelIdeal.Gen Cert.KernelIdeal.Runs
open Cert.ReferenceIdeal.Read (token tokOf featOf rowAt refHid refOut tok_lt feat_lt batch_lt win_lt head_lt early_lt late_lt)
open Idealize.ShloMosaic Idealize.ShloMosaic.TcCoe Idealize.ShloMosaic.Tactic

/-! ## The order of the columns -/

/-- The place is one of the 5120. -/
theorem place_lt (k : Fin 5120) : (colTok k).val * 160 + (colFeat k).val < 5120 := by omega
/-- Where column `k` of the block of windows stands among the tokens' features in order. -/
def place (k : Fin 5120) : Fin 5120 := ⟨(colTok k).val * 160 + (colFeat k).val, place_lt k⟩
/-- The place's token. -/
theorem tokOf_place (k : Fin 5120) : tokOf (place k) = colTok k := Fin.ext (show ((colTok k).val * 160 + (colFeat k).val) / 160 = (colTok k).val by omega)
/-- The place's feature. -/
theorem featOf_place (k : Fin 5120) : featOf (place k) = colFeat k := Fin.ext (show ((colTok k).val * 160 + (colFeat k).val) % 160 = (colFeat k).val by omega)
/-- Two columns have two places. -/
theorem place_injective : Function.Injective place := by
  intro k l e
  have h1 : (colTok k).val = (colTok l).val := by rw [← tokOf_place, ← tokOf_place, e]
  have h2 : (colFeat k).val = (colFeat l).val := by rw [← featOf_place, ← featOf_place, e]
  have t : ∀ k : Fin 5120, (colTok k).val = if k.val < 4096 then k.val / 128 else (k.val - 4096) / 128 * 4 + k.val % 128 / 32 := fun _ => rfl
  have f : ∀ k : Fin 5120, (colFeat k).val = if k.val < 4096 then k.val % 128 else 128 + k.val % 32 := fun _ => rfl
  rw [t, t] at h1
  rw [f, f] at h2
  refine Fin.ext ?_
  split at h1 <;> split at h1 <;> simp_all only [if_true, if_false] <;> omega
/-- The places are the 5120 columns in another order. -/
theorem place_bijective : Function.Bijective place := Finite.injective_iff_bijective.mp place_injective

section Hidden

variable (m : (ℓ : Loc nD τ sig) → Buf (Elt Ideal) ℓ) (c : Dev nD)

/-- A token as the kernel reads it is the token of the window. -/
theorem tokAt_eq (a : Fin 4) (b : Fin 16) (h : Fin 3) (j : Fin 32) (d : Fin 160) (g : Fin 12) (hg : g.val = a.val * 3 + h.val) (q : Fin 272) (hq : q.val = b.val * 16 + j.val) :
    tokAt (V m c main_v0) (V m c main_v1) (V m c main_v2) (V m c main_v3) g q d
      = token (m (c, main_arg0)) (m (c, main_arg1)) (m (c, main_arg2)) (m (c, main_arg3)) a b h j d := by
  have e1 : ∀ hh, (⟨g.val / 3, hh⟩ : Fin 4) = a := fun _ => Fin.ext (show g.val / 3 = a.val by omega)
  have e2 : ∀ hh, (⟨g.val % 3, hh⟩ : Fin 3) = h := fun _ => Fin.ext (show g.val % 3 = h.val by omega)
  unfold tokAt token
  simp only [e1, e2]
  by_cases h1 : q.val < 16
  · have hj : j.val < 16 := by omega
    have e3 : (⟨q.val, h1⟩ : Fin 16) = ⟨j.val, hj⟩ := Fin.ext (show q.val = j.val by omega)
    rw [dif_pos h1, dif_pos hj, if_pos (by omega), V_v2, V_v3, e3]
  · rw [dif_neg h1, V_v0, V_v1]
    by_cases hj : j.val < 16
    · rw [dif_pos hj, if_neg (by omega)]
      have e3 : ∀ hh, (⟨q.val - 16, hh⟩ : Fin 256) = ⟨(b.val - 1) * 16 + j.val, early_lt b j hj⟩ := fun _ => Fin.ext (show q.val - 16 = (b.val - 1) * 16 + j.val by omega)
      rw [e3]
    · rw [dif_neg hj]
      have e3 : ∀ hh, (⟨q.val - 16, hh⟩ : Fin 256) = ⟨b.val * 16 + (j.val - 16), late_lt b j⟩ := fun _ => Fin.ext (show q.val - 16 = b.val * 16 + (j.val - 16) by omega)
      rw [e3]

/-- The hidden layer's rows agree. -/
theorem hid_eq (a : Fin 4) (b : Fin 16) (h : Fin 3) : hid m c (rowOf a h b)
    = refHid (m (c, main_arg0)) (m (c, main_arg1)) (m (c, main_arg2)) (m (c, main_arg3)) (m (c, main_arg4)) (m (c, main_arg5)) (m (c, main_arg6)) (m (c, main_arg7)) (rowAt a b h) := by
  funext f
  have e1 : ∀ hh, (⟨(rowAt a b h).val / 48, hh⟩ : Fin 4) = a := fun _ => Fin.ext (show (a.val * 48 + b.val * 3 + h.val) / 48 = a.val by omega)
  have e2 : ∀ hh, (⟨(rowAt a b h).val / 3 % 16, hh⟩ : Fin 16) = b := fun _ => Fin.ext (show (a.val * 48 + b.val * 3 + h.val) / 3 % 16 = b.val by omega)
  have e3 : ∀ hh, (⟨(rowAt a b h).val % 3, hh⟩ : Fin 3) = h := fun _ => Fin.ext (show (a.val * 48 + b.val * 3 + h.val) % 3 = h.val by omega)
  unfold hid hidOf refHid
  rw [V_v4, V_v5]
  simp only [e1, e2, e3]
  refine congrArg (fun s : EReal => actE (s * _ + _)) ?_
  refine Fintype.sum_bijective place place_bijective _ _ fun k => ?_
  rw [tokOf_place, featOf_place]
  refine congrArg₂ (· * ·) ?_ (congrFun (V_main_arg5 m c) _)
  show winAt (V m c main_v0) (V m c main_v1) (V m c main_v2) (V m c main_v3) (V m c main_arg4) (rowOf a h b) k = _
  unfold winAt
  rw [tokAt_eq m c a b h (colTok k) (colFeat k) _ (show (a.val * 48 + h.val * 16 + b.val) / 16 = a.val * 3 + h.val by omega) _
    (show (a.val * 48 + h.val * 16 + b.val) % 16 * 16 + (colTok k).val = b.val * 16 + (colTok k).val by omega)]
  exact congrArg (_ + ·) (congrFun (V_main_arg4 m c) _)

/-- The second layer's rows agree. -/
theorem outs_eq (a : Fin 4) (b : Fin 16) (h : Fin 3) : outs m c (rowOf a h b)
    = refOut (m (c, main_arg0)) (m (c, main_arg1)) (m (c, main_arg2)) (m (c, main_arg3)) (m (c, main_arg4)) (m (c, main_arg5)) (m (c, main_arg6)) (m (c, main_arg7))
      (m (c, main_arg8)) (m (c, main_arg9)) (m (c, main_arg10)) (rowAt a b h) := by
  funext d
  unfold outs outRow refOut
  rw [V_v7, V_v8, hid_eq]
  exact congrArg (outAt _ · _ _) (funext fun f => V_v6 m c d f)

/-! ## The results -/

/-- The first result is the reference's. -/
theorem equal1 : (Cert.ReferenceIdeal.Value.G11 (F := Ideal) (m (c, main_arg0)) (m (c, main_arg1)) (m (c, main_arg2)) (m (c, main_arg3)) (m (c, main_arg4)) (m (c, main_arg5)) (m (c, main_arg6)) (m (c, main_arg7))
    (m (c, main_arg8)) (m (c, main_arg9)) (m (c, main_arg10)) : S4x16x3x160.Idx → EReal) = resO (outs m c) := by
  have key : ∀ (a : Fin 4) (b : Fin 16) (h : Fin 3) (d : Fin 160), Cert.ReferenceIdeal.Value.G11 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (ix4 a b h d) = codeAt (outs m c (rowOf a h b) d) (expOf (outs m c (rowOf a h b))) := by
    intro a b h d
    rw [outs_eq]
    exact Cert.ReferenceIdeal.Read.result1 _ _ _ _ _ _ _ _ _ _ _ a b h d
  exact funext fun y => (congrArg _ (eq_ix4 y)).trans (key (y 0) (y 1) (y 2) (y 3))
/-- The second result is the reference's. -/
theorem equal2 : (Cert.ReferenceIdeal.Value.G12 (F := Ideal) (m (c, main_arg0)) (m (c, main_arg1)) (m (c, main_arg2)) (m (c, main_arg3)) (m (c, main_arg4)) (m (c, main_arg5)) (m (c, main_arg6)) (m (c, main_arg7))
    (m (c, main_arg8)) (m (c, main_arg9)) (m (c, main_arg10)) : S4x16x3.Idx → EReal) = resS (outs m c) := by
  have key : ∀ (a : Fin 4) (b : Fin 16) (h : Fin 3), Cert.ReferenceIdeal.Value.G12 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (ix3 a b h) = scaleAt (expOf (outs m c (rowOf a h b))) := by
    intro a b h
    rw [outs_eq]
    exact Cert.ReferenceIdeal.Read.result2 _ _ _ _ _ _ _ _ _ _ _ a b h
  exact funext fun y => (congrArg _ (eq_ix3 y)).trans (key (y 0) (y 1) (y 2))
/-- The third result is the reference's. -/
theorem equal3 : (Cert.ReferenceIdeal.Value.G13 (F := Ideal) (m (c, main_arg0)) (m (c, main_arg1)) (m (c, main_arg2)) (m (c, main_arg3)) (m (c, main_arg4)) (m (c, main_arg5)) (m (c, main_arg6)) (m (c, main_arg7))
    (m (c, main_arg8)) (m (c, main_arg9)) (m (c, main_arg10)) : S4x16x3x6144.Idx → EReal) = resH (hid m c) := by
  have key : ∀ (a : Fin 4) (b : Fin 16) (h : Fin 3) (d : Fin 6144), Cert.ReferenceIdeal.Value.G13 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (ix4 a b h d) = codeAt (hid m c (rowOf a h b) d) (expOf (hid m c (rowOf a h b))) := by
    intro a b h d
    rw [hid_eq]
    exact Cert.ReferenceIdeal.Read.result3 _ _ _ _ _ _ _ _ _ _ _ a b h d
  exact funext fun y => (congrArg _ (eq_ix4 y)).trans (key (y 0) (y 1) (y 2) (y 3))
/-- The fourth result is the reference's. -/
theorem equal4 : (Cert.ReferenceIdeal.Value.G14 (F := Ideal) (m (c, main_arg0)) (m (c, main_arg1)) (m (c, main_arg2)) (m (c, main_arg3)) (m (c, main_arg4)) (m (c, main_arg5)) (m (c, main_arg6)) (m (c, main_arg7))
    (m (c, main_arg8)) (m (c, main_arg9)) (m (c, main_arg10)) : S4x16x3.Idx → EReal) = resS (hid m c) := by
  have key : ∀ (a : Fin 4) (b : Fin 16) (h : Fin 3), Cert.ReferenceIdeal.Value.G14 (F := Ideal) (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (ix3 a b h) = scaleAt (expOf (hid m c (rowOf a h b))) := by
    intro a b h
    rw [hid_eq]
    exact Cert.ReferenceIdeal.Read.result4 _ _ _ _ _ _ _ _ _ _ _ a b h
  exact funext fun y => (congrArg _ (eq_ix3 y)).trans (key (y 0) (y 1) (y 2))

end Hidden

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.RefEqual
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- From equal arguments the program and the reference leave equal results, all four of them. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Runs.resO (Cert.KernelIdeal.Runs.outs m c), fun c => Cert.KernelIdeal.Runs.resS (Cert.KernelIdeal.Runs.outs m c),
    fun c => Cert.KernelIdeal.Runs.resH (Cert.KernelIdeal.Runs.hid m c), fun c => Cert.KernelIdeal.Runs.resS (Cert.KernelIdeal.Runs.hid m c), ?_, ?_⟩
  · refine (θ_run _ _ _).mono ?_ (θ_run_and (Cert.KernelIdeal.Runs.run_results m g) (Cert.KernelIdealFrame.unchanged m g))
    rintro r ⟨h, hu⟩ c
    exact ⟨(h c).1, (h c).2.1, (h c).2.2.1, (h c).2.2.2, hu c⟩
  · refine (θ_run _ _ _).mono ?_ (Cert.ReferenceIdeal.Value.run (F := Ideal) m' g')
    rintro r h c
    obtain ⟨h1, h2, h3, h4, hu⟩ := h c
    obtain ⟨e0, e1, e2, e3, e4, e5, e6, e7, e8, e9, e10⟩ := hargs c
    rw [e0, e1, e2, e3, e4, e5, e6, e7, e8, e9, e10] at h1 h2 h3 h4
    exact ⟨h1.trans (Cert.Equal.equal1 m c), h2.trans (Cert.Equal.equal2 m c), h3.trans (Cert.Equal.equal3 m c), h4.trans (Cert.Equal.equal4 m c), hu⟩

theorem claim : Cert.Claim := ⟨Cert.Kernel.Gen.facts, Cert.KernelIdeal.Gen.facts, Cert.ReferenceIdeal.Gen.facts, fun m ρ _ => Cert.KernelFrame.frame m ρ,
  fun m ρ _ => Cert.KernelIdealFrame.frame m ρ, fun m ρ _ => Cert.ReferenceIdeal.Gen.frame m ρ, trivial, algebraic⟩

end Cert.Proof

end
